-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x1024x32 : Shape := ⟨3, ![128, 1024, 32]⟩
abbrev S512x32 : Shape := ⟨2, ![512, 32]⟩
abbrev S_ : Shape := ⟨0, ![]⟩

class Facts : Prop where
  bcast_S_S128x1024x32 : S_.BroadcastsInDim S128x1024x32 (![] : Fin 0 → Fin S128x1024x32.rank)
  bcast_S_S512x32 : S_.BroadcastsInDim S512x32 (![] : Fin 0 → Fin S512x32.rank)

variable [Facts]

def fn {F : FTy → Type} [FloatOps F] (main_arg0 : FVec F S128x1024x32 .f32) (main_arg1 : FVec F S512x32 .f32) : IVec S128x1024x32 1 × IVec S512x32 1 :=
  let main_v0 : FVec F S128x1024x32 .f32 := Host.absf main_arg0
  let main_cst : FVec F S_ .f32 := constant S_ .f32 0x7F800000#32
  let main_v1 : FVec F S128x1024x32 .f32 := broadcastInDim S128x1024x32 ![] bcast_S_S128x1024x32 main_cst
  let main_v2 : IVec S128x1024x32 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  (main_v2, main_v5)
-- ==== Kernel.lean ====
abbrev S128x1024x32 : Shape := ⟨3, ![128, 1024, 32]⟩
abbrev S512x32 : Shape := ⟨2, ![512, 32]⟩
abbrev S128x32x1024 : Shape := ⟨3, ![128, 32, 1024]⟩
abbrev S128x1024 : Shape := ⟨2, ![128, 1024]⟩
abbrev S1x1 : Shape := ⟨2, ![1, 1]⟩
abbrev S_ : Shape := ⟨0, ![]⟩
abbrev S16x32x1024 : Shape := ⟨3, ![16, 32, 1024]⟩
abbrev S16x1024 : Shape := ⟨2, ![16, 1024]⟩
abbrev S512 : Shape := ⟨1, ![512]⟩
abbrev S512x1 : Shape := ⟨2, ![512, 1]⟩
abbrev S512x1024 : Shape := ⟨2, ![512, 1024]⟩
abbrev S1x32x1024 : Shape := ⟨3, ![1, 32, 1024]⟩
abbrev S32x1024 : Shape := ⟨2, ![32, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 10
  | .vmem => 7
  | .smem => 1
  | _ => 0

abbrev bufTy : (tb : Table) → Fin (tcTables nBuf tb) → BufTy
  | .hbm, ⟨0, _⟩ => ⟨S128x1024x32, .f32⟩
  | .hbm, ⟨1, _⟩ => ⟨S512x32, .f32⟩
  | .hbm, ⟨2, _⟩ => ⟨S128x32x1024, .f32⟩
  | .hbm, ⟨3, _⟩ => ⟨S128x32x1024, .f32⟩
  | .hbm, ⟨4, _⟩ => ⟨S128x1024, .i32⟩
  | .hbm, ⟨5, _⟩ => ⟨S1x1, .f32⟩
  | .hbm, ⟨6, _⟩ => ⟨S128x1024x32, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S16x32x1024, .f32⟩
  | .local _ .vmem, ⟨1, _⟩ => ⟨S16x32x1024, .f32⟩
  | .local _ .vmem, ⟨2, _⟩ => ⟨S512x32, .f32⟩
  | .local _ .vmem, ⟨3, _⟩ => ⟨S16x32x1024, .f32⟩
  | .local _ .vmem, ⟨4, _⟩ => ⟨S16x32x1024, .f32⟩
  | .local _ .vmem, ⟨5, _⟩ => ⟨S16x1024, .i32⟩
  | .local _ .vmem, ⟨6, _⟩ => ⟨S16x1024, .i32⟩
  | .local _ .smem, ⟨0, _⟩ => ⟨S1x1, .f32⟩
  | _, _ => ⟨S128x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0_2 : Ref sig .tc := ⟨.hbm, 4, rfl⟩
abbrev main_call0_v1_2 : Ref sig .tc := ⟨.hbm, 5, rfl⟩
abbrev main_v0_0 : Ref sig .tc := ⟨.hbm, 6, rfl⟩
abbrev main_call0_v3 : Ref sig .tc := ⟨.hbm, 7, rfl⟩
abbrev main_call0_cst : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v806 : BitVec 1 := Scalar.cmpi .eq arg0 c0_i32
  let v807 : BitVec 32 := Scalar.extui v806
  let c0_i32_227 : BitVec 32 := 0#32
  let v808 : BitVec 1 := Scalar.cmpi .ne v807 c0_i32_227
  v808

def k0_cond2 (i : grid0.Coords) : BitVec 1 :=
  let arg0 : BitVec 32 := BitVec.ofNat 32 (i 0).val
  let c0_i32_228 : BitVec 32 := 0#32
  let v809 : BitVec 1 := Scalar.cmpi .ne arg0 c0_i32_228
  let v810 : BitVec 32 := Scalar.extui v809
  let c0_i32_229 : BitVec 32 := 0#32
  let v811 : BitVec 1 := Scalar.cmpi .ne v810 c0_i32_229
  v811

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x1024x32 : Shape := ⟨3, ![128, 1024, 32]⟩
abbrev S512x32 : Shape := ⟨2, ![512, 32]⟩
abbrev S131072x32 : Shape := ⟨2, ![131072, 32]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S32x512 : Shape := ⟨2, ![32, 512]⟩
abbrev S1 : Shape := ⟨1, ![1]⟩
abbrev S1x1 : Shape := ⟨2, ![1, 1]⟩
abbrev S128x1024 : Shape := ⟨2, ![128, 1024]⟩

abbrev nBuf : Space → Nat
  | .hbm => 60
  | .vmem => 0
  | .smem => 0
  | _ => 0

abbrev bufTy : (tb : Table) → Fin (tcTables nBuf tb) → BufTy
  | .hbm, ⟨0, _⟩ => ⟨S128x1024x32, .f32⟩
  | .hbm, ⟨1, _⟩ => ⟨S512x32, .f32⟩
  | .hbm, ⟨2, _⟩ => ⟨S131072x32, .f32⟩
  | .hbm, ⟨3, _⟩ => ⟨S131072x32, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S32x512, .f32⟩
  | .hbm, ⟨15, _⟩ => ⟨S131072x512, .f32⟩
  | .hbm, ⟨16, _⟩ => ⟨S_, .f32⟩
  | .hbm, ⟨17, _⟩ => ⟨S131072x512, .f32⟩
  | .hbm, ⟨18, _⟩ => ⟨S131072x512, .f32⟩
  | .hbm, ⟨19, _⟩ => ⟨S131072x512, .f32⟩
  | .hbm, ⟨20, _⟩ => ⟨S131072x512, .i32⟩
  | .hbm, ⟨21, _⟩ => ⟨S_, .f32⟩
  | .hbm, ⟨22, _⟩ => ⟨S_, .i32⟩
  | .hbm, ⟨23, _⟩ => ⟨S131072, .f32⟩
  | .hbm, ⟨24, _⟩ => ⟨S131072, .i32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S1, .i32⟩
  | .hbm, ⟨34, _⟩ => ⟨S_, .i32⟩
  | .hbm, ⟨35, _⟩ => ⟨S131072x1, .i32⟩
  | .hbm, ⟨36, _⟩ => ⟨S131072x1, .i1⟩
  | .hbm, ⟨37, _⟩ => ⟨S1x1, .i32⟩
  | .hbm, ⟨38, _⟩ => ⟨S131072x1, .i32⟩
  | .hbm, ⟨39, _⟩ => ⟨S131072x1, .i1⟩
  | .hbm, ⟨40, _⟩ => ⟨S131072x1, .i1⟩
  | .hbm, ⟨41, _⟩ => ⟨S_, .i1⟩
  | .hbm, ⟨42, _⟩ => ⟨S131072, .i1⟩
  | .hbm, ⟨43, _⟩ => ⟨S131072x32, .f32⟩
  | .hbm, ⟨44, _⟩ => ⟨S131072x32, .i1⟩
  | .hbm, ⟨45, _⟩ => ⟨S_, .f32⟩
  | .hbm, ⟨46, _⟩ => ⟨S131072x32, .f32⟩
  | .hbm, ⟨47, _⟩ => ⟨S131072x32, .f32⟩
  | .hbm, ⟨48, _⟩ => ⟨S131072x32, .f32⟩
  | .hbm, ⟨49, _⟩ => ⟨S131072x32, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S131072x32, .f32⟩
  | .hbm, ⟨57, _⟩ => ⟨S131072x32, .f32⟩
  | .hbm, ⟨58, _⟩ => ⟨S128x1024x32, .f32⟩
  | .hbm, ⟨59, _⟩ => ⟨S128x1024, .i32⟩
  | _, _ => ⟨S128x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit

@[expose] public section

set_option maxRecDepth 16384

noncomputable section

namespace Cert.VQ

open Idealize.ShloMosaic Idealize.ShloMosaic.TcCoe Idealize.ShloMosaic.Tactic Idealize.SL.Sem
open Cert.KernelIdeal Cert.KernelIdeal.Gen

variable {F : FTy → Type} [FloatOps F]

/-- Row `r` of a block of sixteen. -/
def zrow (x0 : Vec F S16x32x1024 .f32) (r : Fin 16) : Vec F S1x32x1024 .f32 := fun x => x0 (ix3 r (x 1) (x 2))

/-- What one row of a block writes to the quantized vectors: the codebook against the row's one-hot columns. -/
def rowQ (cb : Vec F S512x32 .f32) (zr : Vec F S1x32x1024 .f32) : Vec F S1x32x1024 .f32 := k0_pay10 cb (k0_pay9 cb zr)

/-- What one row of a block writes to the indices: the index word of every lane. -/
def rowIdx (cb : Vec F S512x32 .f32) (zr : Vec F S1x32x1024 .f32) : IVec S1x1024 32 :=
  k0_pay8 cb zr

/-- One row's share of the loss: the running sum `p` plus the sum of the row's 1024 least
    distances. -/
def rowAdd (cb : Vec F S512x32 .f32) (p : F .f32) (zr : Vec F S1x32x1024 .f32) : F .f32 :=
  k0_pay18 p (k0_pay6 cb zr)

/-- A block's share of the loss: the sixteen rows added from zero, in order. -/
def blockLoss (cb : Vec F S512x32 .f32) (x0 : Vec F S16x32x1024 .f32) : F .f32 :=
  (List.finRange 16).foldl (fun p r => rowAdd cb p (zrow x0 r)) (Scalar.ofBits .f32 0x00000000#32)

/-- The read of a block's row `k` is that row. -/
theorem ld_row (x0 : Vec F S16x32x1024 .f32) (k : Nat) (hk : k < 16)
    (inb : ∀ a, (![k, 0, 0] : Fin 3 → Nat) a + (![1, 32, 1024] : Fin 3 → Nat) a ≤ S16x32x1024.size a) :
    View.ld x0 (Rect.unit ![k, 0, 0] ![1, 32, 1024] inb) = zrow x0 ⟨k, hk⟩ := by
  funext x
  have hx : (x 0 : Nat) < 1 := (x 0).isLt
  refine congrArg x0 (funext fun a => Fin.ext ?_)
  rw [Rect.idx_unit_val]
  match a with
  | 0 => show k + (x 0 : Nat) = k; omega
  | 1 => show 0 + (x 1 : Nat) = x 1; omega
  | 2 => show 0 + (x 2 : Nat) = x 2; omega

/-- A tile computed from row `k`, read at its own index, is the tile of the row the block's index
    `y` names, read at `y`'s other two coordinates. -/
theorem row_tile3 {α : Type} (f : Vec F S1x32x1024 .f32 → S1x32x1024.Idx → α) (x0 : Vec F S16x32x1024 .f32) (k : Nat)
    (inb : ∀ a, (![k, 0, 0] : Fin 3 → Nat) a + (![1, 32, 1024] : Fin 3 → Nat) a ≤ S16x32x1024.size a)
    (y : S16x32x1024.Idx) (x : S1x32x1024.Idx) (h0 : (y 0 : Nat) = k + x 0) (h1 : (y 1 : Nat) = x 1) (h2 : (y 2 : Nat) = x 2) :
    f (View.ld x0 (Rect.unit ![k, 0, 0] ![1, 32, 1024] inb)) x = f (zrow x0 (y 0)) (ix3 0 (y 1) (y 2)) := by
  have hx : (x 0 : Nat) < 1 := (x 0).isLt
  have hy : (y 0 : Nat) < 16 := (y 0).isLt
  rw [ld_row x0 k (by omega) inb]
  have e : (⟨k, by omega⟩ : Fin 16) = y 0 := Fin.ext (by show k = (y 0 : Nat); omega)
  rw [e]
  refine congrArg _ (funext fun a => Fin.ext ?_)
  match a with
  | 0 => show (x 0 : Nat) = 0; omega
  | 1 => exact h1.symm
  | 2 => exact h2.symm

/-- The same for a tile of two coordinates. -/
theorem row_tile2 {α : Type} (f : Vec F S1x32x1024 .f32 → S1x1024.Idx → α) (x0 : Vec F S16x32x1024 .f32) (k : Nat)
    (inb : ∀ a, (![k, 0, 0] : Fin 3 → Nat) a + (![1, 32, 1024] : Fin 3 → Nat) a ≤ S16x32x1024.size a)
    (y : S16x1024.Idx) (x : S1x1024.Idx) (h0 : (y 0 : Nat) = k + x 0) (h1 : (y 1 : Nat) = x 1) :
    f (View.ld x0 (Rect.unit ![k, 0, 0] ![1, 32, 1024] inb)) x = f (zrow x0 (y 0)) (ix2 0 (y 1)) := by
  have hx : (x 0 : Nat) < 1 := (x 0).isLt
  have hy : (y 0 : Nat) < 16 := (y 0).isLt
  rw [ld_row x0 k (by omega) inb]
  have e : (⟨k, by omega⟩ : Fin 16) = y 0 := Fin.ext (by show k = (y 0 : Nat); omega)
  rw [e]
  refine congrArg _ (funext fun a => Fin.ext ?_)
  match a with
  | 0 => show (x 0 : Nat) = 0; omega
  | 1 => exact h1.symm

variable (c : Dev nD) (i : grid0.Coords) (arg1 : Memref sig .tc .vmem S16x32x1024 .f32) (harg1 : arg1.IsWhole)
  (arg2 : Memref sig .tc .vmem S512x32 .f32) (harg2 : arg2.IsWhole) (arg3 : Memref sig .tc .vmem S16x32x1024 .f32) (harg3 : arg3.IsWhole)
  (arg4 : Memref sig .tc .vmem S16x1024 .i32) (harg4 : arg4.IsWhole) (arg5 : Memref sig .tc .smem S1x1 .f32) (harg5 : arg5.IsWhole)

/-- The quantized vectors the first grid point writes, row by row. -/
theorem out0_A_2_apply (hc0 : cond0_0 i) (hc1 : ¬cond0_1 i) (x0 : Vec F S16x32x1024 .f32) (x1 : Vec F S512x32 .f32) (y : S16x32x1024.Idx) :
    out0_A_2 c i arg1 harg1 arg2 harg2 arg3 harg3 arg4 harg4 arg5 harg5 hc0 hc1 x0 x1 y = rowQ x1 (zrow x0 (y 0)) (ix3 0 (y 1) (y 2)) := by
  frame_out
  canon_tiles x h
  all_goals exact row_tile3 (rowQ x1) x0 _ _ y x (by omega) (by omega) (by omega)

/-- The indices the first grid point writes, row by row. -/
theorem out0_A_3_apply (hc0 : cond0_0 i) (hc1 : ¬cond0_1 i) (x0 : Vec F S16x32x1024 .f32) (x1 : Vec F S512x32 .f32) (y : S16x1024.Idx) :
    out0_A_3 c i arg1 harg1 arg2 harg2 arg3 harg3 arg4 harg4 arg5 harg5 hc0 hc1 x0 x1 y = rowIdx x1 (zrow x0 (y 0)) (ix2 0 (y 1)) := by
  frame_out
  canon_tiles x h
  all_goals exact row_tile2 (rowIdx x1) x0 _ _ y x (by omega) (by omega)

/-- The quantized vectors the later grid points write, row by row. -/
theorem out0_B_2_apply (hc0 : ¬cond0_0 i) (hc1 : cond0_1 i) (x0 : Vec F S16x32x1024 .f32) (x1 : Vec F S512x32 .f32) (x2 : Vec F S1x1 .f32) (y : S16x32x1024.Idx) :
    out0_B_2 c i arg1 harg1 arg2 harg2 arg3 harg3 arg4 harg4 arg5 harg5 hc0 hc1 x0 x1 x2 y = rowQ x1 (zrow x0 (y 0)) (ix3 0 (y 1) (y 2)) := by
  frame_out
  canon_tiles x h
  all_goals exact row_tile3 (rowQ x1) x0 _ _ y x (by omega) (by omega) (by omega)

/-- The indices the later grid points write, row by row. -/
theorem out0_B_3_apply (hc0 : ¬cond0_0 i) (hc1 : cond0_1 i) (x0 : Vec F S16x32x1024 .f32) (x1 : Vec F S512x32 .f32) (x2 : Vec F S1x1 .f32) (y : S16x1024.Idx) :
    out0_B_3 c i arg1 harg1 arg2 harg2 arg3 harg3 arg4 harg4 arg5 harg5 hc0 hc1 x0 x1 x2 y = rowIdx x1 (zrow x0 (y 0)) (ix2 0 (y 1)) := by
  frame_out
  canon_tiles x h
  all_goals exact row_tile2 (rowIdx x1) x0 _ _ y x (by omega) (by omega)

/-- The first grid point stores its block's share of the loss. -/
theorem out0_A_4_apply (hc0 : cond0_0 i) (hc1 : ¬cond0_1 i) (x0 : Vec F S16x32x1024 .f32) (x1 : Vec F S512x32 .f32) (y : S1x1.Idx) :
    out0_A_4 c i arg1 harg1 arg2 harg2 arg3 harg3 arg4 harg4 arg5 harg5 hc0 hc1 x0 x1 y = blockLoss x1 x0 := by
  frame_out
  simp (disch := decide) only [ld_row]
  rfl

/-- A later grid point adds its block's share to the loss it finds. -/
theorem out0_B_4_apply (hc0 : ¬cond0_0 i) (hc1 : cond0_1 i) (x0 : Vec F S16x32x1024 .f32) (x1 : Vec F S512x32 .f32) (x2 : Vec F S1x1 .f32) (y : S1x1.Idx) :
    out0_B_4 c i arg1 harg1 arg2 harg2 arg3 harg3 arg4 harg4 arg5 harg5 hc0 hc1 x0 x1 x2 y = Scalar.addf (x2 y) (blockLoss x1 x0) := by
  have hy : ∀ w w' : S1x1.Idx, w = w' := fun w w' => funext fun a => Fin.ext (by
    have h1 := (w a).isLt; have h2 := (w' a).isLt
    match a with
    | 0 => change (w 0 : Nat) < 1 at h1; change (w' 0 : Nat) < 1 at h2; omega
    | 1 => change (w 1 : Nat) < 1 at h1; change (w' 1 : Nat) < 1 at h2; omega)
  frame_out
  simp (disch := decide) only [ld_row]
  refine Eq.trans ?_ (congrArg (fun w => Scalar.addf (x2 w) (blockLoss x1 x0)) (hy ((Rect.unit ![0, 0] ![1, 1] inb_S1x1_S1x1_0_0).idx (Shape.Idx.first (by decide))) y))
  rfl

end Cert.VQ

end
-- ==== Proof.Best.lean ====
module

public import Idealize.ShloMosaic.Lib.Pipeline.ValueKit

@[expose] public section

set_option maxRecDepth 16384

noncomputable section

/-! # The first least of finitely many extended reals, and the distance to a codebook entry -/

namespace Cert.VQ

open Idealize.ShloMosaic

/-- Some index holds the least value and every earlier index holds a greater one. -/
theorem exists_first {N : ℕ} (d : Fin (N + 1) → EReal) : ∃ k, (∀ j, d k ≤ d j) ∧ ∀ j, j < k → d k < d j := by
  obtain ⟨a, -, ha⟩ := Finset.exists_min_image Finset.univ d Finset.univ_nonempty
  let S : Finset (Fin (N + 1)) := Finset.univ.filter fun k => ∀ j, d k ≤ d j
  have hS : S.Nonempty := ⟨a, Finset.mem_filter.2 ⟨Finset.mem_univ a, fun j => ha j (Finset.mem_univ j)⟩⟩
  refine ⟨S.min' hS, (Finset.mem_filter.1 (S.min'_mem hS)).2, fun j hj => ?_⟩
  by_contra hn
  have hjS : j ∈ S := Finset.mem_filter.2 ⟨Finset.mem_univ j, fun i =>
    (not_lt.1 hn).trans ((Finset.mem_filter.1 (S.min'_mem hS)).2 i)⟩
  exact absurd (S.min'_le j hjS) (not_le.2 hj)

/-- The first index holding the least value. -/
def best {N : ℕ} (d : Fin (N + 1) → EReal) : Fin (N + 1) := Classical.choose (exists_first d)

/-- The value there is the least. -/
theorem best_le {N : ℕ} (d : Fin (N + 1) → EReal) (j : Fin (N + 1)) : d (best d) ≤ d j :=
  (Classical.choose_spec (exists_first d)).1 j

/-- Every earlier value is greater. -/
theorem best_lt {N : ℕ} (d : Fin (N + 1) → EReal) (j : Fin (N + 1)) (h : j < best d) : d (best d) < d j :=
  (Classical.choose_spec (exists_first d)).2 j h

/-- Whatever index holds the least value with only greater ones before it is `best`. -/
theorem eq_best {N : ℕ} (d : Fin (N + 1) → EReal) (k : Fin (N + 1)) (h1 : ∀ j, d k ≤ d j) (h2 : ∀ j, j < k → d k < d j) :
    k = best d := by
  rcases lt_trichotomy k (best d) with h | h | h
  · exact absurd (best_lt d k h) (not_lt.2 (h1 _))
  · exact h
  · exact absurd (h2 _ h) (not_lt.2 (best_le d k))

/-- The fold of `min` from `⊤` is the value at `best`. -/
theorem fold_min {N : ℕ} (d : Fin (N + 1) → EReal) : Finset.univ.fold min ⊤ d = d (best d) := by
  show Finset.univ.inf d = _
  exact le_antisymm (Finset.inf_le (Finset.mem_univ _)) (Finset.le_inf fun j _ => best_le d j)

/-- The fold of `min` over the indices holding the least value, every other index counting as a number
    no index exceeds, is the first of them. -/
theorem fold_min_index {N : ℕ} (d : Fin (N + 1) → EReal) (top : EReal) (htop : ∀ k : Fin (N + 1), ((k.val : ℝ) : EReal) ≤ top) :
    Finset.univ.fold min ⊤ (fun k : Fin (N + 1) => if d k = d (best d) then ((k.val : ℝ) : EReal) else top)
      = (((best d).val : ℝ) : EReal) := by
  show Finset.univ.inf _ = _
  refine le_antisymm ((Finset.inf_le (Finset.mem_univ (best d))).trans (by rw [if_pos rfl])) (Finset.le_inf fun j _ => ?_)
  split
  · rename_i h
    refine EReal.coe_le_coe (Nat.cast_le.2 (Fin.le_def.1 (not_lt.1 fun hj => ?_)))
    exact absurd h (ne_of_gt (best_lt d j hj))
  · exact htop _

/-- The squared distance from `z` to the codebook entry `c`, expanded: `Σz² + Σc² − 2·Σcz`. -/
def dst (c z : Fin 32 → EReal) : EReal :=
  ((∑ i, z i * z i) + ∑ i, c i * c i) - 2 * ∑ i, c i * z i

/-- The codebook entry nearest to `z`, the first of several. -/
def near (C : Fin 512 → Fin 32 → EReal) (z : Fin 32 → EReal) : Fin 512 := best (N := 511) fun k => dst (C k) z

end Cert.VQ

end
-- ==== Proof.RowMath.lean ====
module

public import proofs.«01_k».proof.Proof.Block
public import proofs.«01_k».proof.Proof.Best

@[expose] public section

set_option maxRecDepth 16384

noncomputable section

namespace Cert.VQ

open Idealize.ShloMosaic Idealize.ShloMosaic.TcCoe Idealize.ShloMosaic.Tactic Idealize.SL.Sem
open Cert.KernelIdeal Cert.KernelIdeal.Gen

variable (cb : Vec Ideal S512x32 .f32) (zr : Vec Ideal S1x32x1024 .f32)

/-- The codebook as rows of numbers. -/
def rows (cb : Vec Ideal S512x32 .f32) (k : Fin 512) (i : Fin 32) : EReal := cb (ix2 k i)

/-- A row's lane `n` as a vector of 32 numbers. -/
def lane (zr : Vec Ideal S1x32x1024 .f32) (n : Fin 1024) (i : Fin 32) : EReal := zr (ix3 0 i n)

/-- The word of `2.0` is `2`. -/
theorem two_val : Ideal.ofBits .f32 0x40000000#32 = 2 := by
  simp [Ideal.ofBits, Ideal.ieee]
  rw [← EReal.coe_mul]
  norm_num
  rfl

/-- The word of `512.0` is `512`. -/
theorem c512_val : Ideal.ofBits .f32 0x44000000#32 = ((512 : ℝ) : EReal) := by
  simp [Ideal.ofBits, Ideal.ieee]
  rw [← EReal.coe_mul]
  norm_num

/-- The word of `+∞` is `⊤`. -/
theorem inf_val : Ideal.ofBits .f32 0x7F800000#32 = ⊤ := by
  simp [Ideal.ofBits, Ideal.ieee]

/-- Adding the upper half of a matrix's rows to the lower half keeps every column's sum. -/
theorem half_sum {M H N : ℕ} (hM : H + H = M) (x : FVec Ideal ⟨2, ![M, N]⟩ .f32) (h0 : Shape.Slices ⟨2, ![M, N]⟩ ![0, 0] ⟨2, ![H, N]⟩)
    (h1 : Shape.Slices ⟨2, ![M, N]⟩ ![H, 0] ⟨2, ![H, N]⟩) (n : Fin N) :
    ∑ i : Fin H, addf (extractStridedSlice ⟨2, ![H, N]⟩ ![0, 0] x h0) (extractStridedSlice ⟨2, ![H, N]⟩ ![H, 0] x h1) (ix2 i n)
      = ∑ i : Fin M, x (ix2 i n) := by
  subst hM
  rw [Fin.sum_univ_add, ← Finset.sum_add_distrib]
  refine Finset.sum_congr rfl fun i _ => ?_
  refine congrArg₂ (· + ·) ?_ ?_
  · refine extractStridedSlice_apply _ x h0 _ _ fun a => ?_
    match a with
    | 0 => exact (Nat.zero_add _).symm
    | 1 => exact (Nat.zero_add _).symm
  · refine extractStridedSlice_apply _ x h1 _ _ fun a => ?_
    match a with
    | 0 => rfl
    | 1 => exact (Nat.zero_add _).symm

/-- The tree of additions over a column's 32 entries, halving five times. -/
def tree (v : FVec Ideal S32x1024 .f32) : FVec Ideal S1x1024 .f32 :=
  let a := addf (extractStridedSlice S16x1024 ![0, 0] v slices_S32x1024_o0_0_S16x1024) (extractStridedSlice S16x1024 ![16, 0] v slices_S32x1024_o16_0_S16x1024)
  let b := addf (extractStridedSlice S8x1024 ![0, 0] a slices_S16x1024_o0_0_S8x1024) (extractStridedSlice S8x1024 ![8, 0] a slices_S16x1024_o8_0_S8x1024)
  let c := addf (extractStridedSlice S4x1024 ![0, 0] b slices_S8x1024_o0_0_S4x1024) (extractStridedSlice S4x1024 ![4, 0] b slices_S8x1024_o4_0_S4x1024)
  let d := addf (extractStridedSlice S2x1024 ![0, 0] c slices_S4x1024_o0_0_S2x1024) (extractStridedSlice S2x1024 ![2, 0] c slices_S4x1024_o2_0_S2x1024)
  addf (extractStridedSlice S1x1024 ![0, 0] d slices_S2x1024_o0_0_S1x1024) (extractStridedSlice S1x1024 ![1, 0] d slices_S2x1024_o1_0_S1x1024)

/-- The tree is the column's sum. -/
theorem tree_apply (v : FVec Ideal S32x1024 .f32) (n : Fin 1024) : tree v (ix2 0 n) = ∑ i : Fin 32, v (ix2 i n) := by
  have e : tree v (ix2 0 n) = ∑ i : Fin 1, tree v (ix2 i n) := (Fin.sum_univ_one fun i : Fin 1 => tree v (ix2 i n)).symm
  rw [e]
  exact (half_sum (H := 1) rfl _ _ _ n).trans ((half_sum (H := 2) rfl _ _ _ n).trans ((half_sum (H := 4) rfl _ _ _ n).trans
    ((half_sum (H := 8) rfl _ _ _ n).trans (half_sum (H := 16) rfl v _ _ n))))

/-- The distances of a row, their tree of additions named. -/
theorem dist_eq : k0_pay5 cb zr = subf
    (addf (broadcastTo S512x1024 (tree (mulf (shapeCast S32x1024 zr shapeCasts_S1x32x1024_S32x1024) (shapeCast S32x1024 zr shapeCasts_S1x32x1024_S32x1024))) broadcasts_S1x1024_S512x1024)
      (broadcastTo S512x1024 (k0_pay3 cb) broadcasts_S512x1_S512x1024))
    (mulf (broadcast S512x1024 (Scalar.ofBits .f32 0x40000000#32))
      (matmul (φ₁ := .f32) (φ₂ := .f32) dot_S512x32_S32x1024_S512x1024_1_0_0_1_n_n none cb (shapeCast S32x1024 zr shapeCasts_S1x32x1024_S32x1024) (constant S512x1024 .f32 0x00000000#32))) := rfl

/-- The distance the kernel computes from lane `n` to entry `k`. -/
theorem dist_apply (k : Fin 512) (n : Fin 1024) : k0_pay5 cb zr (ix2 k n) = dst (rows cb k) (lane zr n) := by
  simp only [dist_eq, k0_pay3, pointwise, two_val]
  simp only [dite_true, dite_false, reduceDIte, OfNat.ofNat_ne_one, Nat.reduceEqDiff, zero_add]
  rw [tree_apply]
  simp only [pointwise]
  rfl

/-- The counter's float at `(k, n)` is `k`. -/
theorem iota_apply (k : Fin 512) (n : Fin 1024) : k0_pay4 (F := Ideal) (ix2 k n) = ((k.val : ℝ) : EReal) := by
  simp only [k0_pay4, pointwise]
  have hk := k.isLt
  have e : (BitVec.ofNat 32 (0 * 512 + k.val)).toInt = (k.val : ℤ) := by
    rw [BitVec.toInt_eq_toNat_of_lt] <;> rw [BitVec.toNat_ofNat] <;> omega
  show (((BitVec.ofNat 32 (0 * 512 + k.val)).toInt : ℝ) : EReal) = _
  rw [e, Int.cast_natCast]

/-- The least distance of lane `n`. -/
theorem min_apply (n : Fin 1024) : k0_pay6 cb zr (ix2 0 n) = dst (rows cb (near (rows cb) (lane zr n))) (lane zr n) := by
  simp only [k0_pay6, pointwise, inf_val, dist_apply]
  exact fold_min (N := 511) _

/-- The index of lane `n` as a float: the first entry at the least distance. -/
theorem idxf_apply (n : Fin 1024) : k0_pay7 cb zr (ix1 n) = (((near (rows cb) (lane zr n)).val : ℝ) : EReal) := by
  simp only [k0_pay7, pointwise, inf_val, dist_apply, min_apply, iota_apply, c512_val]
  refine Eq.trans ?_ (fold_min_index (N := 511) (fun k => dst (rows cb k) (lane zr n)) ((512 : ℝ) : EReal) fun k => ?_)
  · refine Finset.fold_congr fun k _ => ?_
    simp only [dite_true, dite_false, reduceDIte, OfNat.ofNat_ne_one, Nat.reduceEqDiff]
    rw [min_apply]
    simp only [near]
    by_cases h : dst (rows cb k) (lane zr n) = dst (rows cb (best fun k => dst (rows cb k) (lane zr n))) (lane zr n)
    · exact (if_pos h).trans (if_pos h).symm
    · exact (if_neg h).trans (if_neg h).symm
  · exact EReal.coe_le_coe (by have := k.isLt; exact_mod_cast (by omega : k.val ≤ 512))

/-- A small whole number converts to its word. -/
theorem fptosi_nat (k : ℕ) (hk : k < 512) : Ideal.fptosi 32 ((k : ℝ) : EReal) = BitVec.ofNat 32 k := by
  show BitVec.ofInt 32 (max _ (min _ (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  exact BitVec.ofInt_natCast 32 k

/-- The index the kernel writes for lane `n`. -/
theorem rowIdx_apply (n : Fin 1024) : rowIdx cb zr (ix2 0 n) = BitVec.ofNat 32 (near (rows cb) (lane zr n)).val := by
  simp only [rowIdx, k0_pay8, pointwise, idxf_apply]
  exact fptosi_nat _ (near (rows cb) (lane zr n)).isLt

/-- The quantized vector the kernel writes for lane `n`: the entry itself. -/
theorem rowQ_apply (i : Fin 32) (n : Fin 1024) : rowQ cb zr (ix3 0 i n) = rows cb (near (rows cb) (lane zr n)) i := by
  simp only [rowQ, k0_pay10, k0_pay9, pointwise, iota_apply]
  simp only [dite_true, dite_false, reduceDIte, OfNat.ofNat_ne_one, Nat.reduceEqDiff, zero_add, idxf_apply]
  rw [Finset.sum_eq_single (near (rows cb) (lane zr n))]
  · rw [decide_eq_true rfl]
    refine (congrArg (cb (ix2 (near (rows cb) (lane zr n)) i) * ·) ?_).trans (mul_one _)
    exact (EReal.coe_eq_one.2 (by simp) : (((BitVec.setWidth 32 (BitVec.ofBool true)).toInt : ℝ) : EReal) = 1)
  · intro k _ hk
    rw [decide_eq_false fun e => hk (Fin.ext (Nat.cast_injective (EReal.coe_injective e)))]
    refine (congrArg (cb (ix2 k i) * ·) ?_).trans (mul_zero _)
    exact (EReal.coe_eq_zero.2 (by simp) : (((BitVec.setWidth 32 (BitVec.ofBool false)).toInt : ℝ) : EReal) = 0)
  · exact fun h => absurd (Finset.mem_univ _) h

/-- A row adds the sum of its least distances. -/
theorem rowAdd_apply (p : EReal) : rowAdd cb p zr = p + ∑ n : Fin 1024, dst (rows cb (near (rows cb) (lane zr n))) (lane zr n) := by
  simp only [rowAdd, k0_pay18, pointwise, min_apply]
  exact congrArg (p + ·) (Fin.sum_univ_one _)

end Cert.VQ

end
-- ==== Proof.Arrays.lean ====
module

public import proofs.«01_k».proof.Proof.RowMath

@[expose] public section

set_option maxRecDepth 16384

noncomputable section

namespace Cert.VQ

open Idealize.ShloMosaic Idealize.ShloMosaic.TcCoe Idealize.ShloMosaic.Tactic Idealize.SL.Sem
open Cert.KernelIdeal Cert.KernelIdeal.Gen

/-- The vector at batch `a`, position `n`. -/
def vec (z : Vec Ideal S128x1024x32 .f32) (a : Fin 128) (n : Fin 1024) (i : Fin 32) : EReal := z (ix3 a n i)

/-- The codebook entry that vector gets. -/
def pick (z : Vec Ideal S128x1024x32 .f32) (cb : Vec Ideal S512x32 .f32) (a : Fin 128) (n : Fin 1024) : Fin 512 :=
  near (rows cb) (vec z a n)

/-- A block's share of the loss is the sum over its rows and lanes of the least distances. -/
theorem blockLoss_eq (cb : Vec Ideal S512x32 .f32) (x0 : Vec Ideal S16x32x1024 .f32) :
    blockLoss cb x0 = ∑ r : Fin 16, ∑ n : Fin 1024, dst (rows cb (near (rows cb) (lane (zrow x0 r) n))) (lane (zrow x0 r) n) := by
  have h : ∀ (l : List (Fin 16)) (p : EReal),
      l.foldl (fun p r => rowAdd cb p (zrow x0 r)) p
        = p + (l.map fun r => ∑ n : Fin 1024, dst (rows cb (near (rows cb) (lane (zrow x0 r) n))) (lane (zrow x0 r) n)).sum := by
    intro l
    induction l with
    | nil => intro p; exact (add_zero p).symm
    | cons r l ih =>
      intro p
      rw [List.foldl_cons, ih, rowAdd_apply, List.map_cons, List.sum_cons, add_assoc]
  have e : blockLoss cb x0 = _ := h (List.finRange 16) (Ideal.ofBits .f32 0x00000000#32)
  rw [e, Ideal.ofBits_zero_f32, zero_add, ← List.ofFn_eq_map, List.sum_ofFn]

variable (m : (ℓ : Loc nD τ sig) → Buf (Elt Ideal) ℓ) (c : Dev nD)

/-- The vectors, as the run finds them. -/
abbrev argZ : Vec Ideal S128x1024x32 .f32 := m ((c.tc : Thread nD τ).loc main_arg0)

/-- The codebook, as the run finds it. -/
abbrev argC : Vec Ideal S512x32 .f32 := m ((c.tc : Thread nD τ).loc main_arg1)

/-- The region finds the vectors transposed. -/
theorem V_call0_v0 : V m c main_call0_v0 = transpose S128x32x1024 [0, 2, 1] (argZ m c) transposes_S128x1024x32_S128x32x1024_0_2_1 := rfl

/-- The block indices of the windows, by the point. -/
theorem idx_0 (t : Fin cfg0.N) : win0_0.index t = ![t.val, 0, 0] := by
  rcases fin_N0 t with rfl | rfl | rfl | rfl | rfl | rfl | rfl | rfl <;> decide +kernel
/-- The codebook's window is at block 0 at every point. -/
theorem idx_1 (t : Fin cfg0.N) : win0_1.index t = ![0, 0] := by
  rcases fin_N0 t with rfl | rfl | rfl | rfl | rfl | rfl | rfl | rfl <;> decide +kernel
/-- The quantized window is at block `t` at point `t`. -/
theorem idx_2 (t : Fin cfg0.N) : win0_2.index t = ![t.val, 0, 0] := by
  rcases fin_N0 t with rfl | rfl | rfl | rfl | rfl | rfl | rfl | rfl <;> decide +kernel
/-- The index window is at block `t` at point `t`. -/
theorem idx_3 (t : Fin cfg0.N) : win0_3.index t = ![t.val, 0] := by
  rcases fin_N0 t with rfl | rfl | rfl | rfl | rfl | rfl | rfl | rfl <;> decide +kernel

/-- The block at point `t` starts at its block index times the block's size. -/
theorem emb_0 (t : Fin cfg0.N) (y : (win0_0.xblock (grid0.coords t)).Idx) (a : Fin 3) :
    ((win0_0.blk t).view.emb y a : Nat) = win0_0.index t a * win0_0.size a + y a := Pipeline.Window.rect_emb_val win0_0 t y a
/-- Where an entry of the codebook's block lies in the codebook. -/
theorem emb_1 (t : Fin cfg0.N) (y : (win0_1.xblock (grid0.coords t)).Idx) (a : Fin 2) :
    ((win0_1.blk t).view.emb y a : Nat) = win0_1.index t a * win0_1.size a + y a := Pipeline.Window.rect_emb_val win0_1 t y a
/-- Where an entry of the quantized block lies in the quantized array. -/
theorem emb_2 (t : Fin cfg0.N) (y : (win0_2.xblock (grid0.coords t)).Idx) (a : Fin 3) :
    ((win0_2.blk t).view.emb y a : Nat) = win0_2.index t a * win0_2.size a + y a := Pipeline.Window.rect_emb_val win0_2 t y a
/-- Where an entry of the index block lies in the index array. -/
theorem emb_3 (t : Fin cfg0.N) (y : (win0_3.xblock (grid0.coords t)).Idx) (a : Fin 2) :
    ((win0_3.blk t).view.emb y a : Nat) = win0_3.index t a * win0_3.size a + y a := Pipeline.Window.rect_emb_val win0_3 t y a

/-- The codebook's block is the codebook. -/
theorem iblk1 (t : Fin cfg0.N) : iblk m c 1 t = argC m c := by
  funext y
  blk_simp [iblk]
  refine (congrFun (V_main_arg1 m c) _).trans (congrArg (argC m c) (funext fun a => Fin.ext ?_))
  refine (emb_1 t y a).trans ?_
  rw [idx_1]
  match a with
  | 0 => exact (congrArg (· + (y 0 : Nat)) (Nat.zero_mul _)).trans (Nat.zero_add _)
  | 1 => exact (congrArg (· + (y 1 : Nat)) (Nat.zero_mul _)).trans (Nat.zero_add _)

/-- Row `r`, lane `n` of block `t` is the vector at batch `16·t + r`. -/
theorem iblk0 (t : Fin cfg0.N) (r : Fin 16) (n : Fin 1024) (a : Fin 128) (ha : a.val = t.val * 16 + r.val) :
    lane (zrow (iblk m c 0 t) r) n = vec (argZ m c) a n := by
  funext i
  show iblk m c 0 t (ix3 r i n) = argZ m c (ix3 a n i)
  blk_simp [iblk]
  refine (congrFun (V_call0_v0 m c) _).trans (transpose_apply _ _ _ _ _ fun b => ?_)
  refine Eq.trans ?_ (emb_0 t (ix3 r i n) b).symm
  rw [idx_0]
  match b with
  | 0 => exact ha
  | 1 => exact ((congrArg (· + (i : Nat)) (Nat.zero_mul _)).trans (Nat.zero_add _)).symm
  | 2 => exact ((congrArg (· + (n : Nat)) (Nat.zero_mul _)).trans (Nat.zero_add _)).symm

/-- What every point leaves in the quantized block. -/
theorem outs_2 (t : Fin cfg0.N) (y : S16x32x1024.Idx) :
    (outsAt0 m c t.val t.isLt).1 y = rowQ (argC m c) (zrow (iblk m c 0 t) (y 0)) (ix3 0 (y 1) (y 2)) := by
  have hN : t.val < 8 := lt_of_lt_of_eq t.isLt (show cfg0.N = 8 from N_0)
  rw [← iblk1 m c t]
  by_cases h0 : t.val % 8 = 0
  · rw [outsAt0_A m c t h0 (by omega)]
    dsimp only
    rw [out0_A_2_apply]
  · rw [outsAt0_B m c t h0 (by omega)]
    dsimp only
    rw [out0_B_2_apply]

/-- What every point leaves in the index block. -/
theorem outs_3 (t : Fin cfg0.N) (y : S16x1024.Idx) :
    (outsAt0 m c t.val t.isLt).2.1 y = rowIdx (argC m c) (zrow (iblk m c 0 t) (y 0)) (ix2 0 (y 1)) := by
  have hN : t.val < 8 := lt_of_lt_of_eq t.isLt (show cfg0.N = 8 from N_0)
  rw [← iblk1 m c t]
  by_cases h0 : t.val % 8 = 0
  · rw [outsAt0_A m c t h0 (by omega)]
    dsimp only
    rw [out0_A_3_apply]
  · rw [outsAt0_B m c t h0 (by omega)]
    dsimp only
    rw [out0_B_3_apply]

/-- The first point stores its block's share of the loss. -/
theorem outs_4_first (t : Fin cfg0.N) (h0 : t.val % 8 = 0) (y : S1x1.Idx) :
    (outsAt0 m c t.val t.isLt).2.2 y = 0 + blockLoss (argC m c) (iblk m c 0 t) := by
  have hN : t.val < 8 := lt_of_lt_of_eq t.isLt (show cfg0.N = 8 from N_0)
  rw [← iblk1 m c t, outsAt0_A m c t h0 (by omega)]
  dsimp only
  rw [out0_A_4_apply]
  exact (zero_add _).symm

/-- A later point adds its block's share to what the point before left. -/
theorem outs_4_next (t : Fin cfg0.N) (h0 : ¬t.val % 8 = 0) (y : S1x1.Idx) :
    (outsAt0 m c t.val t.isLt).2.2 y
      = (outsAt0 m c (t.val - 1) (Nat.lt_of_le_of_lt (Nat.sub_le _ _) t.isLt)).2.2 y + blockLoss (argC m c) (iblk m c 0 t) := by
  have hN : t.val < 8 := lt_of_lt_of_eq t.isLt (show cfg0.N = 8 from N_0)
  rw [← iblk1 m c t, outsAt0_B m c t h0 (by omega)]
  dsimp only
  rw [out0_B_4_apply]
  rfl

/-- What the loss cell holds after the last point: every block's share. -/
theorem outs_4 (y : S1x1.Idx) :
    (outsAt0 m c t0_7.val t0_7.isLt).2.2 y = ∑ t : Fin cfg0.N, blockLoss (argC m c) (iblk m c 0 t) := by
  have h := Pipeline.eq_sum_fin_of_reset_step_apply_last (M := EReal) (fun n h => (outsAt0 m c n h).2.2) 8 (fun _ => (0 : EReal))
    (fun t _ => blockLoss (argC m c) (iblk m c 0 t)) (outs_4_first m c) (outs_4_next m c) (le_of_eq N_0) t0_7 rfl y
  exact h.trans (zero_add _)

/-- What the quantized array ends holding: every vector's entry, transposed. -/
def qT : Buf (Elt Ideal) ((c.tc : Thread nD τ).loc main_call0_v1_0) :=
  fun y : S128x32x1024.Idx => rows (argC m c) (pick (argZ m c) (argC m c) (y 0) (y 2)) (y 1)

/-- The quantized array ends holding every vector's entry, transposed. -/
theorem arr2 : (dats m 0 c).arrAt 2 cfg0.N = qT m c := by
  refine (dats m 0 c).arrAt_eq_of_covers 2 _ (by decide +kernel) fun t hf y => ?_
  rw [after0_2]
  blk_simp
  have e0 := emb_2 t y 0
  have e1 := emb_2 t y 1
  have e2 := emb_2 t y 2
  rw [idx_2] at e0 e1 e2
  generalize (win0_2.blk t).view.emb y = j at e0 e1 e2
  change S128x32x1024.Idx at j
  change S16x32x1024.Idx at y
  refine (outs_2 m c t y).trans ((rowQ_apply (argC m c) (zrow (iblk m c 0 t) (y 0)) (y 1) (y 2)).trans ?_)
  have e2' : y 2 = j 2 := Fin.ext (((congrArg (· + (y 2 : Nat)) (Nat.zero_mul _)).trans (Nat.zero_add _)).symm.trans e2.symm)
  have e1' : y 1 = j 1 := Fin.ext (((congrArg (· + (y 1 : Nat)) (Nat.zero_mul _)).trans (Nat.zero_add _)).symm.trans e1.symm)
  rw [iblk0 m c t (y 0) (y 2) (j 0) e0, e1', e2']
  rfl

/-- What the index array ends holding: every vector's entry's number. -/
def idxT : Buf (Elt Ideal) ((c.tc : Thread nD τ).loc main_v0_2) :=
  fun y : S128x1024.Idx => BitVec.ofNat 32 (pick (argZ m c) (argC m c) (y 0) (y 1)).val

/-- The index array ends holding every vector's entry's number. -/
theorem arr3 : (dats m 0 c).arrAt 3 cfg0.N = idxT m c := by
  refine (dats m 0 c).arrAt_eq_of_covers 3 _ (by decide +kernel) fun t hf y => ?_
  rw [after0_3]
  blk_simp
  have e0 := emb_3 t y 0
  have e1 := emb_3 t y 1
  rw [idx_3] at e0 e1
  generalize (win0_3.blk t).view.emb y = j at e0 e1
  change S128x1024.Idx at j
  change S16x1024.Idx at y
  refine (outs_3 m c t y).trans ((rowIdx_apply (argC m c) (zrow (iblk m c 0 t) (y 0)) (y 1)).trans ?_)
  have e1' : y 1 = j 1 := Fin.ext (((congrArg (· + (y 1 : Nat)) (Nat.zero_mul _)).trans (Nat.zero_add _)).symm.trans e1.symm)
  rw [iblk0 m c t (y 0) (y 1) (j 0) e0, e1']
  rfl

/-- The sum over every vector of its least distance. -/
def total (z : Vec Ideal S128x1024x32 .f32) (cb : Vec Ideal S512x32 .f32) : EReal :=
  ∑ a : Fin 128, ∑ n : Fin 1024, dst (rows cb (pick z cb a n)) (vec z a n)

/-- The blocks' shares add up to the sum over every vector. -/
theorem shares : ∑ t : Fin cfg0.N, blockLoss (argC m c) (iblk m c 0 t) = total (argZ m c) (argC m c) := by
  have hN : cfg0.N = 8 := N_0
  unfold total
  rw [← Fin.sum_mul_add_fin (S := cfg0.N) (n := 16) (L := 128) (f := fun a => ∑ n : Fin 1024, dst (rows (argC m c) (pick (argZ m c) (argC m c) a n)) (vec (argZ m c) a n)) (by rw [hN])]
  refine Finset.sum_congr rfl fun t _ => ?_
  rw [blockLoss_eq]
  refine Finset.sum_congr rfl fun r _ => Finset.sum_congr rfl fun n _ => ?_
  rw [iblk0 m c t r n ⟨t.val * 16 + r.val, by have := t.isLt; have := r.isLt; omega⟩ rfl]
  rfl

/-- What the loss array ends holding: the sum over every vector of its least distance. -/
def lossT : Buf (Elt Ideal) ((c.tc : Thread nD τ).loc main_call0_v1_2) :=
  fun _ : S1x1.Idx => total (argZ m c) (argC m c)

/-- The loss array ends holding the sum over every vector of its least distance. -/
theorem arr4 : (dats m 0 c).arrAt 4 cfg0.N = lossT m c := by
  funext i
  refine ((dats m 0 c).arrAt_emb_eq_after_last 4 t0_7 (by decide +kernel) i).trans ?_
  blk_simp
  rw [after0_4]
  exact (outs_4 m c _).trans (shares m c)

end Cert.VQ

end
-- ==== Proof.KRun.lean ====
module

public import proofs.«01_k».proof.Proof.Arrays
public import Idealize.ShloMosaic.Lib.StableHlo.Run

@[expose] public section

set_option maxRecDepth 16384

noncomputable section

/-! # What the kernel's run leaves in its three results -/

namespace Cert.VQ

open Idealize.ShloMosaic Idealize.ShloMosaic.TcCoe Idealize.ShloMosaic.Tactic Idealize.ShloMosaic.StableHlo Idealize.SL.Sem
open Cert.KernelIdeal Cert.KernelIdeal.Gen

/-- The quantized vectors: every vector's codebook entry. -/
def quant (z : Vec Ideal S128x1024x32 .f32) (cb : Vec Ideal S512x32 .f32) : Vec Ideal S128x1024x32 .f32 :=
  fun y => rows cb (pick z cb (y 0) (y 1)) (y 2)

/-- The loss: the sum of the least distances, scaled by `2 ^ (-24)`. -/
def lossV (z : Vec Ideal S128x1024x32 .f32) (cb : Vec Ideal S512x32 .f32) : Vec Ideal S_ .f32 :=
  fun _ => Ideal.ofBits .f32 0x33800000#32 * total z cb

/-- The indices: every vector's codebook entry's number. -/
def index (z : Vec Ideal S128x1024x32 .f32) (cb : Vec Ideal S512x32 .f32) : Vec Ideal S128x1024 .i32 :=
  fun y => BitVec.ofNat 32 (pick z cb (y 0) (y 1)).val

variable (m : (ℓ : Loc nD τ sig) → Buf (Elt Ideal) ℓ) (ρ : Dev nD → PrngReg)

/-- Different windows have different arrays. -/
theorem arr_inj : Function.Injective (Pipeline.arrRef spec0) := by decide

/-- The host operations after the launch transpose the quantized array back. -/
theorem tail_0 (c : Dev nD) : Pipeline.afterTail₀ cfgs (dats m) 0 (V0 m) [hostOps1] c main_v0_0 = quant (argZ m c) (argC m c) := by
  unfold Pipeline.afterTail₀
  simp only [List.flatten_cons, List.flatten_nil, List.append_nil, hostOps1]
  after_results_simp
  have e := (Pipeline.withArrays_arr spec0 arr_inj c (V0 m c) (fun w => (dats m 0 c).arrAt w cfg0.N) 2).trans (arr2 m c)
  refine Eq.trans (b := transpose S128x1024x32 [0, 2, 1] (qT m c) transposes_S128x32x1024_S128x1024x32_0_2_1)
    (congrArg (fun x => transpose S128x1024x32 [0, 2, 1] x transposes_S128x32x1024_S128x1024x32_0_2_1) e) ?_
  funext y
  exact transpose_apply _ _ _ y (ix3 (y 0) (y 2) (y 1)) fun b => by match b with | 0 | 1 | 2 => rfl

/-- The host operations after the launch scale the loss. -/
theorem tail_1 (c : Dev nD) : Pipeline.afterTail₀ cfgs (dats m) 0 (V0 m) [hostOps1] c main_v0_1 = lossV (argZ m c) (argC m c) := by
  unfold Pipeline.afterTail₀
  simp only [List.flatten_cons, List.flatten_nil, List.append_nil, hostOps1]
  after_results_simp
  have e := (Pipeline.withArrays_arr spec0 arr_inj c (V0 m c) (fun w => (dats m 0 c).arrAt w cfg0.N) 4).trans (arr4 m c)
  refine Eq.trans (b := mulf (F := Ideal) (constant S_ .f32 0x33800000#32) (shapeCast S_ (lossT m c) shapeCasts_S1x1_S_))
    (congrArg (fun x : Vec Ideal S1x1 .f32 => mulf (F := Ideal) (constant S_ .f32 0x33800000#32) (shapeCast S_ x shapeCasts_S1x1_S_)) e) ?_
  rfl

/-- The kernel's run from any memory: its three results are the quantized vectors, the scaled sum of the least
    distances and the indices, and the arguments end unchanged. -/
theorem run : θ_run defs (onTc (τ := τ) (main (F := Ideal))) ⟨m, fun _ => 0, ρ⟩ fun r => ∀ c : Dev nD,
      r.2.mem ((c.tc : Thread nD τ).loc main_v0_0) = quant (argZ m c) (argC m c)
      ∧ r.2.mem ((c.tc : Thread nD τ).loc main_v0_1) = lossV (argZ m c) (argC m c)
      ∧ r.2.mem ((c.tc : Thread nD τ).loc main_v0_2) = index (argZ m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (unchanged m ρ))
  obtain ⟨hp, hu⟩ := h
  exact ⟨((hp c).2 main_v0_0 (Pipeline.mem_restRefs_of main_v0_0 (by decide) (by decide))).trans (tail_0 m c),
    ((hp c).2 main_v0_1 (Pipeline.mem_restRefs_of main_v0_1 (by decide) (by decide))).trans (tail_1 m c),
    ((hp c).1 3).trans (arr3 m c), hu c⟩

end Cert.VQ

end
-- ==== Proof.RefRun.lean ====
/-
  The run of the reference: `@main` of `ReferenceIdeal` is a straight line of host operations (the two functions jax
  outlines, the index of the least distance and the row lookup, written out at their calls), so every buffer ends at
  the operations' results folded over the launch contents. Its three results and two arguments are read off here, the
  results as named functions of the two argument arrays.
-/
module

public import proofs.«01_k».proof.Defs
public import proofs.«01_k».proof.Proof.Gen.ReferenceIdeal
public import Idealize.ShloMosaic.Lib.StableHlo.Run

@[expose] public section

set_option maxRecDepth 16384

noncomputable section

namespace Cert.VQ.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The results as functions of the arguments -/

/-- `z` with its first two axes made one: 131072 vectors of length 32. -/
def flat (z : FVec F S128x1024x32 .f32) : FVec F S131072x32 .f32 := shapeCast S131072x32 z shapeCasts_S128x1024x32_S131072x32

/-- The distance table: `Σ z² + Σ c² - 2 (z · c)` for every vector and every code. -/
def dist (zf : FVec F S131072x32 .f32) (cb : FVec F S512x32 .f32) : FVec F S131072x512 .f32 :=
  subf
    (addf
      (broadcastInDim S131072x512 ![0, 1] bcast_S131072x1_S131072x512_0_1
        (broadcastInDim S131072x1 ![0] bcast_S131072_S131072x1_0
          (Host.reduceAdd (mulf zf zf) (constant S_ .f32 0x00000000#32) reducesTo_S131072x32_S131072_d1 h_S_)))
      (broadcastInDim S131072x512 ![0, 1] bcast_S1x512_S131072x512_0_1
        (broadcastInDim S1x512 ![1] bcast_S512_S1x512_1
          (Host.reduceAdd (mulf cb cb) (constant S_ .f32 0x00000000#32) reducesTo_S512x32_S512_d1 h_S_))))
    (mulf (broadcastInDim S131072x512 ![] bcast_S_S131072x512 (constant S_ .f32 0x40000000#32))
      (Host.dotGeneral dot_S131072x32_S32x512_S131072x512_1_0_0_1_n_n none zf
        (transpose S32x512 [1, 0] cb transposes_S512x32_S32x512_1_0)))

/-- The index of the least distance of every row of a distance table. -/
def argmin (d : FVec F S131072x512 .f32) : IVec S131072 32 := fun j =>
  (Host.argReduce reducer_argmin_f32_i32 d (iotaInDim S131072x512 32 1) (constant S_ .f32 0x7F800000#32)
    (constantI S_ 32 0#32) reducesTo_S131072x512_S131072_d1 h_S_ j).2

/-- An index word as `jnp.take` reads it: 512 is added to a negative one. -/
def wrap (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 512#32))) i)

/-- Whether a wrapped index word lies in `[0, 511]`. -/
def inRange (w : IVec S131072x1 32) : IVec S131072 1 :=
  Host.reduce IntOp.andi
    (andi (cmpi .sge w (broadcastInDim S131072x1 ![] bcast_S_S131072x1 (constantI S_ 32 0#32)))
      (cmpi .sle w (broadcastInDim S131072x1 ![0, 1] bcast_S1x1_S131072x1_0_1
        (broadcastInDim S1x1 ![1] bcast_S1_S1x1_1 (constantI S1 32 511#32)))))
    (constantI S_ 1 1#1) reducesTo_S131072x1_S131072_d1 h_S_

/-- The rows of the codebook at the index words, `jnp.take`'s way: the fill value where a word is out of range. -/
def take (cb : FVec F S512x32 .f32) (i : IVec S131072 32) : FVec F S131072x32 .f32 :=
  select (broadcastInDim S131072x32 ![0] bcast_S131072_S131072x32_0 (inRange (wrap i)))
    (Host.gather gather_S512x32_S131072x1_S131072x32_1_0_n_n_0_1_132 cb (wrap i))
    (broadcastInDim S131072x32 ![] bcast_S_S131072x32 (constant S_ .f32 0x7FC00000#32))

/-- `z + (q - z)`, back in the shape of `z`. -/
def throughQ (zf q : FVec F S131072x32 .f32) : FVec F S128x1024x32 .f32 :=
  shapeCast S128x1024x32 (addf zf (subf q zf)) shapeCasts_S131072x32_S128x1024x32

/-- A quarter of the mean of `(z - q)²`. -/
def quarterMean (zf q : FVec F S131072x32 .f32) : FVec F S_ .f32 :=
  mulf (constant S_ .f32 0x3E800000#32)
    (Host.divf
      (Host.reduceAdd (mulf (subf zf q) (subf zf q)) (constant S_ .f32 0x00000000#32) reducesTo_S131072x32_S_d0_1 h_S_)
      (constant S_ .f32 0x4A800000#32))

/-- Result 0. -/
def outQ (z : FVec F S128x1024x32 .f32) (cb : FVec F S512x32 .f32) : FVec F S128x1024x32 .f32 :=
  throughQ (flat z) (take cb (argmin (dist (flat z) cb)))

/-- Result 1. -/
def outLoss (z : FVec F S128x1024x32 .f32) (cb : FVec F S512x32 .f32) : FVec F S_ .f32 :=
  quarterMean (flat z) (take cb (argmin (dist (flat z) cb)))

/-- Result 2: the indices, in the shape `128 × 1024`. -/
def outIdx (z : FVec F S128x1024x32 .f32) (cb : FVec F S512x32 .f32) : IVec S128x1024 32 :=
  shapeCast S128x1024 (argmin (dist (flat z) cb)) shapeCasts_S131072_S128x1024

/-! ## The run -/

/-- The distance table. -/
abbrev opsDist : List (HloOp τ sig (Elt F)) :=
  [ reshape main_arg0 main_v0 rfl shapeCasts_S128x1024x32_S131072x32,
    binary main_v0 main_v0 main_v1 mulf,
    nullary main_cst (constant S_ .f32 0x00000000#32),
    binary main_v1 main_cst main_v2 (fun x v => Host.reduceAdd x v reducesTo_S131072x32_S131072_d1 h_S_),
    unary main_v2 main_v3 (broadcastInDim S131072x1 ![0] bcast_S131072_S131072x1_0),
    binary main_arg1 main_arg1 main_v4 mulf,
    nullary main_cst_0 (constant S_ .f32 0x00000000#32),
    binary main_v4 main_cst_0 main_v5 (fun x v => Host.reduceAdd x v reducesTo_S512x32_S512_d1 h_S_),
    unary main_v5 main_v6 (broadcastInDim S1x512 ![1] bcast_S512_S1x512_1),
    unary main_v3 main_v7 (broadcastInDim S131072x512 ![0, 1] bcast_S131072x1_S131072x512_0_1),
    unary main_v6 main_v8 (broadcastInDim S131072x512 ![0, 1] bcast_S1x512_S131072x512_0_1),
    binary main_v7 main_v8 main_v9 addf,
    unary main_arg1 main_v10 (transpose S32x512 [1, 0] · transposes_S512x32_S32x512_1_0),
    binary main_v0 main_v10 main_v11 (fun l r => Host.dotGeneral dot_S131072x32_S32x512_S131072x512_1_0_0_1_n_n none l r),
    nullary main_cst_1 (constant S_ .f32 0x40000000#32),
    unary main_cst_1 main_v12 (broadcastInDim S131072x512 ![] bcast_S_S131072x512),
    binary main_v12 main_v11 main_v13 mulf,
    binary main_v9 main_v13 main_v14 subf ]

/-- The index of the least distance. -/
abbrev opsArg : List (HloOp τ sig (Elt F)) :=
  [ TRef.nullary main_call0.v0 (iotaInDim S131072x512 32 1),
    TRef.nullary main_call0.cst (constant S_ .f32 0x7F800000#32),
    TRef.nullary main_call0.c (constantI S_ 32 0#32),
    TRef.quaternary (.of main_v14) main_call0.v0 main_call0.cst main_call0.c main_call0.v1_0 (fun x y u v j => (Host.argReduce reducer_argmin_f32_i32 x y u v reducesTo_S131072x512_S131072_d1 h_S_ j).1),
    TRef.quaternary (.of main_v14) main_call0.v0 main_call0.cst main_call0.c main_call0.v1_1 (fun x y u v j => (Host.argReduce reducer_argmin_f32_i32 x y u v reducesTo_S131072x512_S131072_d1 h_S_ j).2) ]

/-- The row lookup. -/
abbrev opsTake : List (HloOp τ sig (Elt F)) :=
  [ TRef.nullary main_call1.c (constantI S_ 32 0#32),
    TRef.unary main_call1.c main_call1.v0 (broadcastInDim S131072 ![] bcast_S_S131072),
    TRef.binary (.of main_v15) main_call1.v0 main_call1.v1 (cmpi .slt),
    TRef.nullary main_call1.c_0 (constantI S_ 32 512#32),
    TRef.unary main_call1.c_0 main_call1.v2 (broadcastInDim S131072 ![] bcast_S_S131072),
    TRef.binary (.of main_v15) main_call1.v2 main_call1.v3 addi,
    TRef.ternary main_call1.v1 main_call1.v3 (.of main_v15) main_call1.call0.v0 select,
    TRef.unary main_call1.call0.v0 main_call1.v5 (broadcastInDim S131072x1 ![0] bcast_S131072_S131072x1_0),
    TRef.nullary main_call1.c_1 (constantI S1 32 511#32),
    TRef.nullary main_call1.c_2 (constantI S_ 32 0#32),
    TRef.unary main_call1.c_2 main_call1.v6 (broadcastInDim S131072x1 ![] bcast_S_S131072x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S131072x1 ![0, 1] bcast_S1x1_S131072x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S131072x1_S131072_d1 h_S_),
    TRef.binary (.of main_arg1) main_call1.v5 main_call1.v13 (fun x i => Host.gather gather_S512x32_S131072x1_S131072x32_1_0_n_n_0_1_132 x i),
    TRef.unary main_call1.v12 main_call1.v14 (broadcastInDim S131072x32 ![0] bcast_S131072_S131072x32_0),
    TRef.nullary main_call1.cst (constant S_ .f32 0x7FC00000#32),
    TRef.unary main_call1.cst main_call1.v15 (broadcastInDim S131072x32 ![] bcast_S_S131072x32),
    TRef.ternary main_call1.v14 main_call1.v13 main_call1.v15 main_call1.v16 select ]

/-- The three results. -/
abbrev opsOut : List (HloOp τ sig (Elt F)) :=
  [ binary main_v0 main_v16 main_v17 subf,
    binary main_v17 main_v17 main_v18 mulf,
    nullary main_cst_2 (constant S_ .f32 0x00000000#32),
    binary main_v18 main_cst_2 main_v19 (fun x v => Host.reduceAdd x v reducesTo_S131072x32_S_d0_1 h_S_),
    nullary main_cst_3 (constant S_ .f32 0x4A800000#32),
    binary main_v19 main_cst_3 main_v20 Host.divf,
    nullary main_cst_4 (constant S_ .f32 0x3E800000#32),
    binary main_cst_4 main_v20 main_v21 mulf,
    binary main_v16 main_v0 main_v22 subf,
    binary main_v0 main_v22 main_v23 addf,
    reshape main_v23 main_v24 rfl shapeCasts_S131072x32_S128x1024x32,
    reshape main_v15 main_v25 rfl shapeCasts_S131072_S128x1024 ]

/-- The operations of `@main`, in order. -/
abbrev ops : List (HloOp τ sig (Elt F)) := opsDist ++ (opsArg ++ (opsTake ++ opsOut))

/-- `@main` is that straight line. -/
theorem main_eq (c : Dev nD) : main (F := F) c = seq ops := by
  simp only [main, fn_argmin.body, fn_take.body, fn_where.body, seq, bind_assoc, pure_bind]
  rfl

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  refine (List.forall_append ..).mpr ⟨?_, (List.forall_append ..).mpr ⟨?_, (List.forall_append ..).mpr ⟨?_, ?_⟩⟩⟩
  · exact ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
  · exact ⟨nullary_bufs_sub .., nullary_bufs_sub .., nullary_bufs_sub .., quaternary_bufs_sub .., quaternary_bufs_sub ..⟩
  · exact ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
  · exact ⟨binary_bufs_sub .., binary_bufs_sub .., nullary_bufs_sub .., binary_bufs_sub .., nullary_bufs_sub .., binary_bufs_sub .., nullary_bufs_sub .., binary_bufs_sub .., binary_bufs_sub .., binary_bufs_sub .., reshape_bufs_sub .., reshape_bufs_sub ..⟩

/-- The operations of two lists in turn. -/
theorem after_append' (l₁ l₂ : List (HloOp τ sig (Elt F))) (V : Valuation τ sig (Elt F)) :
    after (l₁ ++ l₂) V = after l₂ (after l₁ V) := by
  induction l₁ generalizing V with
  | nil => rfl
  | cons op l₁ ih => exact ih _

section Stages

variable (V : Valuation τ sig (Elt F))

/-! ### What each stage leaves -/

/-- The first stage computes the distances from the arguments. -/
theorem dist_v14 : after opsDist V (main_v14 : DevRef τ sig)
    = dist (flat (V (main_arg0 : DevRef τ sig))) (V (main_arg1 : DevRef τ sig)) := by
  after_results_simp
  rfl

/-- The first stage flattens the vectors. -/
theorem dist_v0 : after opsDist V (main_v0 : DevRef τ sig) = flat (V (main_arg0 : DevRef τ sig)) := by
  after_results_simp
  rfl

/-- The first stage keeps the vectors. -/
theorem dist_arg0 : after opsDist V (main_arg0 : DevRef τ sig) = V (main_arg0 : DevRef τ sig) := by
  after_results_simp
/-- The first stage keeps the codebook. -/
theorem dist_arg1 : after opsDist V (main_arg1 : DevRef τ sig) = V (main_arg1 : DevRef τ sig) := by
  after_results_simp

/-- The second stage takes the index of the least distance. -/
theorem arg_v15 : after opsArg V (main_v15 : DevRef τ sig) = argmin (V (main_v14 : DevRef τ sig)) := by
  after_results_simp
  rfl

/-- The second stage keeps the flattened vectors. -/
theorem arg_v0 : after opsArg V (main_v0 : DevRef τ sig) = V (main_v0 : DevRef τ sig) := by
  after_results_simp
/-- The second stage keeps the vectors. -/
theorem arg_arg0 : after opsArg V (main_arg0 : DevRef τ sig) = V (main_arg0 : DevRef τ sig) := by
  after_results_simp
/-- The second stage keeps the codebook. -/
theorem arg_arg1 : after opsArg V (main_arg1 : DevRef τ sig) = V (main_arg1 : DevRef τ sig) := by
  after_results_simp

/-- The third stage looks up the codebook's entries at the indices. -/
theorem take_v16 : after opsTake V (main_v16 : DevRef τ sig)
    = take (V (main_arg1 : DevRef τ sig)) (V (main_v15 : DevRef τ sig)) := by
  have e1 : ∀ h h' h'', (TRef.of (T := ⟨S512x32, .f32⟩) main_arg1 h h' h'').ofBuf (V (main_arg1 : DevRef τ sig))
      = V (main_arg1 : DevRef τ sig) := fun _ _ _ => rfl
  have e15 : ∀ h h' h'', (TRef.of (T := ⟨S131072, .i32⟩) main_v15 h h' h'').ofBuf (V (main_v15 : DevRef τ sig))
      = V (main_v15 : DevRef τ sig) := fun _ _ _ => rfl
  have e16 : ∀ h h' h'' (X : FVec F S131072x32 .f32),
      (TRef.of (T := ⟨S131072x32, .f32⟩) main_v16 h h' h'').toBuf (Val := Elt F) X = X := fun _ _ _ _ => rfl
  after_results_simp
  simp only [TRef.ofBuf_toBuf, e1, e15]
  rw [e16]
  rfl

/-- The third stage keeps the flattened vectors. -/
theorem take_v0 : after opsTake V (main_v0 : DevRef τ sig) = V (main_v0 : DevRef τ sig) := by
  after_results_simp
/-- The third stage keeps the indices. -/
theorem take_v15 : after opsTake V (main_v15 : DevRef τ sig) = V (main_v15 : DevRef τ sig) := by
  after_results_simp
/-- The third stage keeps the vectors. -/
theorem take_arg0 : after opsTake V (main_arg0 : DevRef τ sig) = V (main_arg0 : DevRef τ sig) := by
  after_results_simp
/-- The third stage keeps the codebook. -/
theorem take_arg1 : after opsTake V (main_arg1 : DevRef τ sig) = V (main_arg1 : DevRef τ sig) := by
  after_results_simp

/-- The last stage computes the first result. -/
theorem out_v24 : after opsOut V (main_v24 : DevRef τ sig) = throughQ (V (main_v0 : DevRef τ sig)) (V (main_v16 : DevRef τ sig)) := by
  after_results_simp
  rfl

/-- The last stage computes the loss. -/
theorem out_v21 : after opsOut V (main_v21 : DevRef τ sig) = quarterMean (V (main_v0 : DevRef τ sig)) (V (main_v16 : DevRef τ sig)) := by
  after_results_simp
  rfl

/-- The last stage reshapes the indices. -/
theorem out_v25 : after opsOut V (main_v25 : DevRef τ sig)
    = shapeCast S128x1024 (V (main_v15 : DevRef τ sig) : IVec S131072 32) shapeCasts_S131072_S128x1024 := by
  after_results_simp
  rfl

/-- The last stage keeps the vectors. -/
theorem out_arg0 : after opsOut V (main_arg0 : DevRef τ sig) = V (main_arg0 : DevRef τ sig) := by
  after_results_simp
/-- The last stage keeps the codebook. -/
theorem out_arg1 : after opsOut V (main_arg1 : DevRef τ sig) = V (main_arg1 : DevRef τ sig) := by
  after_results_simp

/-! ### What they leave together -/

/-- The first result, of the arguments. -/
theorem q_eq : after ops V (main_v24 : DevRef τ sig) = outQ (V (main_arg0 : DevRef τ sig)) (V (main_arg1 : DevRef τ sig)) := by
  rw [ops, after_append', after_append', after_append', out_v24, take_v0, arg_v0, dist_v0, take_v16, arg_v15, arg_arg1, dist_v14, dist_arg1]
  rfl

/-- The loss, of the arguments. -/
theorem loss_eq : after ops V (main_v21 : DevRef τ sig) = outLoss (V (main_arg0 : DevRef τ sig)) (V (main_arg1 : DevRef τ sig)) := by
  rw [ops, after_append', after_append', after_append', out_v21, take_v0, arg_v0, dist_v0, take_v16, arg_v15, arg_arg1, dist_v14, dist_arg1]
  rfl

/-- The indices, of the arguments. -/
theorem idx_eq : after ops V (main_v25 : DevRef τ sig) = outIdx (V (main_arg0 : DevRef τ sig)) (V (main_arg1 : DevRef τ sig)) := by
  rw [ops, after_append', after_append', after_append', out_v25, take_v15, arg_v15, dist_v14]
  rfl

/-- The vectors end unchanged. -/
theorem arg0_eq : after ops V (main_arg0 : DevRef τ sig) = V (main_arg0 : DevRef τ sig) := by
  rw [ops, after_append', after_append', after_append', out_arg0, take_arg0, arg_arg0, dist_arg0]

/-- The codebook ends unchanged. -/
theorem arg1_eq : after ops V (main_arg1 : DevRef τ sig) = V (main_arg1 : DevRef τ sig) := by
  rw [ops, after_append', after_append', after_append', out_arg1, take_arg1, arg_arg1, dist_arg1]

end Stages

/-- The reference's run from any memory: its three results are `outQ`, `outLoss`, `outIdx` of the arguments, and the
    arguments end unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v24) = outQ (m ((c.tc : Thread nD τ).loc main_arg0)) (m ((c.tc : Thread nD τ).loc main_arg1))
      ∧ r.2.mem ((c.tc : Thread nD τ).loc main_v21) = outLoss (m ((c.tc : Thread nD τ).loc main_arg0)) (m ((c.tc : Thread nD τ).loc main_arg1))
      ∧ r.2.mem ((c.tc : Thread nD τ).loc main_v25) = outIdx (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v24).trans (q_eq _), (h c main_v21).trans (loss_eq _),
      (h c main_v25).trans (idx_eq _), (h c main_arg0).trans (arg0_eq _), (h c main_arg1).trans (arg1_eq _)⟩)
    (run_seq scopedRefs_eq scopedSems_eq defs main (fun _ => ops) main_eq (fun _ => ops_sub) m ρ)

end Cert.VQ.Ref

end
-- ==== Proof.RefArg.lean ====
/-
  The index of the least distance, as the reference computes it: a fold of (distance, index) pairs that keeps the
  lexicographically smaller of two.
-/
module

public import proofs.«01_k».proof.Proof.RefRun
public import proofs.«01_k».proof.Proof.RowMath

@[expose] public section

set_option maxRecDepth 16384

noncomputable section

namespace Cert.VQ.Ref

open Idealize.ShloMosaic Idealize.SL.Sem
open Cert.ReferenceIdeal Cert.ReferenceIdeal.Gen

/-- Pairs ordered by the distance, then by the index. -/
def Le (a b : EReal × BitVec 32) : Prop := a.1 < b.1 ∨ a.1 = b.1 ∧ a.2.toInt ≤ b.2.toInt

/-- The order is reflexive. -/
theorem Le.refl (a : EReal × BitVec 32) : Le a a := Or.inr ⟨rfl, le_rfl⟩

/-- The order is transitive. -/
theorem Le.trans {a b c : EReal × BitVec 32} (h : Le a b) (h' : Le b c) : Le a c := by
  rcases h with h | ⟨h, i⟩ <;> rcases h' with h' | ⟨h', i'⟩
  · exact Or.inl (h.trans h')
  · exact Or.inl (h'.symm ▸ h)
  · exact Or.inl (h.symm ▸ h')
  · exact Or.inr ⟨h.trans h', i.trans i'⟩

/-- Of two pairs one comes first. -/
theorem Le.total (a b : EReal × BitVec 32) : Le a b ∨ Le b a := by
  rcases lt_trichotomy a.1 b.1 with h | h | h
  · exact Or.inl (Or.inl h)
  · rcases le_total a.2.toInt b.2.toInt with i | i
    · exact Or.inl (Or.inr ⟨h, i⟩)
    · exact Or.inr (Or.inr ⟨h.symm, i⟩)
  · exact Or.inr (Or.inl h)

/-- The fold's step gives one of its two pairs, and one not above either. -/
theorem reducer_spec (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨a1, a2⟩ := a
  obtain ⟨b1, b2⟩ := b
  have hf : reducer_argmin_f32_i32 (F := Ideal) (a1, a2) (b1, b2)
      = if a1 < b1 ∨ a1 = b1 ∧ a2.toInt < b2.toInt then (a1, a2) else (b1, b2) := by
    unfold reducer_argmin_f32_i32
    rcases lt_trichotomy a1 b1 with h | h | h
    · have o : ∀ x : BitVec 1, 1#1 ||| x = 1#1 := by decide
      simp [Ideal.cmpf_def, Ideal.cmp, Scalar.select, IntOp.ori, IntOp.andi, h, h.ne, o]
    · by_cases i : a2.toInt < b2.toInt <;>
        simp [Ideal.cmpf_def, Ideal.cmp, Scalar.select, IntOp.ori, IntOp.andi, IntOp.cmpi, BitVec.slt, h, i]
    · simp [Ideal.cmpf_def, Ideal.cmp, Scalar.select, IntOp.ori, IntOp.andi, h.not_gt, h.ne']
  rw [hf]
  split
  · rename_i h
    exact ⟨Or.inl rfl, Le.refl _, h.imp_right fun e => ⟨e.1, e.2.le⟩⟩
  · rename_i h
    refine ⟨Or.inr rfl, ?_, Le.refl _⟩
    rcases Le.total (b1, b2) (a1, a2) with e | e
    · exact e
    · rcases e with e | ⟨e, i⟩
      · exact absurd (Or.inl e) h
      · exact Or.inr ⟨e.symm, not_lt.1 fun i' => h (Or.inr ⟨e, i'⟩)⟩

/-- A fold of such steps ends at one of the pairs it saw, and at one not above any of them. -/
theorem foldl_spec (l : List (EReal × BitVec 32)) (p : EReal × BitVec 32) :
    l.foldl (reducer_argmin_f32_i32 (F := Ideal)) p ∈ p :: l ∧ ∀ q ∈ p :: l, Le (l.foldl (reducer_argmin_f32_i32 (F := Ideal)) p) q := by
  induction l generalizing p with
  | nil => exact ⟨List.mem_singleton.2 rfl, fun q hq => by rw [List.mem_singleton.1 hq]; exact Le.refl _⟩
  | cons a l ih =>
    obtain ⟨hm, hle⟩ := ih (reducer_argmin_f32_i32 (F := Ideal) p a)
    obtain ⟨hc, hp, ha⟩ := reducer_spec p a
    have h0 := hle _ List.mem_cons_self
    rw [List.foldl_cons]
    refine ⟨?_, fun q hq => ?_⟩
    · rcases List.mem_cons.1 hm with e | e
      · rw [e]
        rcases hc with e' | e' <;> rw [e']
        · exact List.mem_cons_self
        · exact List.mem_cons_of_mem _ List.mem_cons_self
      · exact List.mem_cons_of_mem _ (List.mem_cons_of_mem _ e)
    · rcases List.mem_cons.1 hq with rfl | hq
      · exact h0.trans hp
      · rcases List.mem_cons.1 hq with rfl | hq
        · exact h0.trans ha
        · exact hle _ (List.mem_cons_of_mem _ hq)

/-- The pairs the fold at row `r` sees are that row's distances with their columns' numbers. -/
theorem mem_fiber (d : FVec Ideal S131072x512 .f32) (r : Fin 131072) (q : EReal × BitVec 32) :
    q ∈ Host.argReduceFiber d (iotaInDim S131072x512 32 1) reducesTo_S131072x512_S131072_d1 (ix1 r)
      ↔ ∃ k : Fin 512, q = (d (ix2 r k), BitVec.ofNat 32 k.val) := by
  have hd : ∀ i : S131072x512.Idx, reducesTo_S131072x512_S131072_d1.drop i = ix1 r ↔ i 0 = r := by
    intro i
    constructor
    · intro h
      exact Fin.ext ((Shape.ReducesTo.drop_apply_val_of_eq reducesTo_S131072x512_S131072_d1 i 0 0).symm.trans (congrArg Fin.val (congrFun h 0)))
    · intro h
      funext b
      obtain rfl : b = 0 := Subsingleton.elim _ _
      exact Fin.ext ((Shape.ReducesTo.drop_apply_val_of_eq reducesTo_S131072x512_S131072_d1 i 0 0).trans (congrArg Fin.val h))
  unfold Host.argReduceFiber
  rw [List.mem_map]
  constructor
  · rintro ⟨n, hn, rfl⟩
    have h := (hd _).1 (of_decide_eq_true (List.mem_filter.1 hn).2)
    refine ⟨(S131072x512.rowMajor.symm n) 1, ?_⟩
    have e : S131072x512.rowMajor.symm n = ix2 r ((S131072x512.rowMajor.symm n) 1) := by
      rw [← h]; exact eq_ix2 _
    exact Prod.ext (congrArg d e) rfl
  · rintro ⟨k, rfl⟩
    refine ⟨S131072x512.rowMajor (ix2 r k), List.mem_filter.2 ⟨List.mem_finRange _, decide_eq_true ((hd _).2 ?_)⟩, ?_⟩
    · rw [Equiv.symm_apply_apply]; rfl
    · rw [Equiv.symm_apply_apply]; rfl

/-- Over the pairs of 512 distances with their numbers, in any order, the fold ends at the number of the first least. -/
theorem foldl_best (l : List (EReal × BitVec 32)) (d : Fin 512 → EReal) (hl : ∀ q, q ∈ l ↔ ∃ k : Fin 512, q = (d k, BitVec.ofNat 32 k.val)) :
    (l.foldl (reducer_argmin_f32_i32 (F := Ideal)) (⊤, 0#32)).2 = BitVec.ofNat 32 (best (N := 511) d).val := by
  obtain ⟨hm, hle⟩ := foldl_spec l (⊤, 0#32)
  generalize l.foldl (reducer_argmin_f32_i32 (F := Ideal)) (⊤, 0#32) = p at hm hle ⊢
  have hk : ∀ k : Fin 512, Le p (d k, BitVec.ofNat 32 k.val) := fun k =>
    hle _ (List.mem_cons_of_mem _ ((hl _).2 ⟨k, rfl⟩))
  have hint : ∀ k : Fin 512, (BitVec.ofNat 32 k.val).toInt = k.val := fun k => by
    have := k.isLt
    rw [BitVec.toInt_eq_toNat_of_lt (by rw [BitVec.toNat_ofNat]; omega), BitVec.toNat_ofNat]
    omega
  have key : ∀ k : Fin 512, p = (d k, BitVec.ofNat 32 k.val) → p.2 = BitVec.ofNat 32 (best (N := 511) d).val := by
    intro k e
    rw [← eq_best (N := 511) d k (fun j => ?_) (fun j hj => ?_), e]
    · rcases hk j with h | ⟨h, -⟩ <;> rw [e] at h
      · exact h.le
      · exact h.le
    · rcases hk j with h | ⟨-, h⟩ <;> rw [e] at h
      · exact h
      · have : (BitVec.ofNat 32 k.val).toInt ≤ (BitVec.ofNat 32 j.val).toInt := h
        rw [hint, hint] at this
        exact absurd hj (not_lt.2 (Fin.le_def.2 (by omega)))
  rcases List.mem_cons.1 hm with e | e
  · refine key 0 ?_
    subst e
    rcases hk 0 with h | ⟨h, -⟩
    · exact absurd h not_top_lt
    · exact Prod.ext h rfl
  · obtain ⟨k, e⟩ := (hl _).1 e
    exact key k e

/-- Every index of least value is the fold of its pairs. -/
theorem argReduce_fold {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t) (hu : 0 < u.numel)
    (p : EReal) (i : BitVec 32) (hp : ∀ k, ix k = p) (hi : ∀ k, iy k = i) :
    (fun j => (Host.argReduce (F := Ideal) (φ := .f32) f x y ix iy h hu j).2)
      = fun j => ((Host.argReduceFiber x y h j).foldl f (p, i)).2 := by
  funext j
  rw [Ideal.argReduce_eq_reduce2, Host.reduce2_eq_foldl_fiber, hp, hi]

/-- `argmin` written out. -/
theorem argmin_eq (d : FVec Ideal S131072x512 .f32) :
    argmin d = fun j => (Host.argReduce (reducer_argmin_f32_i32 (F := Ideal)) d (iotaInDim S131072x512 32 1)
      (constant S_ .f32 0x7F800000#32) (constantI S_ 32 0#32) reducesTo_S131072x512_S131072_d1 h_S_ j).2 := rfl

/-- The index of a row's least distance is the number of the first column holding it. -/
theorem argmin_apply (d : FVec Ideal S131072x512 .f32) (r : Fin 131072) :
    argmin d (ix1 r) = BitVec.ofNat 32 (best (N := 511) fun k => d (ix2 r k)).val :=
  (congrFun ((argmin_eq d).trans (argReduce_fold (reducer_argmin_f32_i32 (F := Ideal)) d (iotaInDim S131072x512 32 1)
    (constant S_ .f32 0x7F800000#32) (constantI S_ 32 0#32) reducesTo_S131072x512_S131072_d1 h_S_ ⊤ 0#32
    (fun _ => inf_val) (fun _ => rfl))) (ix1 r)).trans
    (foldl_best _ (fun k => d (ix2 r k)) (mem_fiber d r))

end Cert.VQ.Ref

end
-- ==== Proof.RefValue.lean ====
module

public import proofs.«01_k».proof.Proof.RefArg
public import proofs.«01_k».proof.Proof.Arrays
public import Idealize.ShloMosaic.Lib.Routing.Ops

@[expose] public section

set_option maxRecDepth 16384

noncomputable section

/-! # The reference's results at an index -/

namespace Cert.VQ.Ref

open Idealize.ShloMosaic Idealize.SL.Sem
open Cert.ReferenceIdeal Cert.ReferenceIdeal.Gen

/-- The flat row of batch `a`, position `n`. -/
def row (a : Fin 128) (n : Fin 1024) : Fin 131072 := ⟨a.val * 1024 + n.val, by have := a.isLt; have := n.isLt; omega⟩

/-- The distance table's entry is the expanded squared distance. -/
theorem dist_apply (zf : FVec Ideal S131072x32 .f32) (cb : FVec Ideal S512x32 .f32) (r : Fin 131072) (k : Fin 512) :
    dist zf cb (ix2 r k) = dst (rows cb k) fun i => zf (ix2 r i) := by
  simp only [dist, pointwise, two_val]
  simp only [dite_false, OfNat.ofNat_ne_one, zero_add]
  unfold dst
  refine congrArg _ (congrArg _ (Finset.sum_congr rfl fun i _ => mul_comm _ _))

/-- The flat rows are the vectors. -/
theorem flat_apply (z : FVec Ideal S128x1024x32 .f32) (a : Fin 128) (n : Fin 1024) (i : Fin 32) :
    flat z (ix2 (row a n) i) = vec z a n i := by
  simp only [flat, pointwise]
  have hn := n.isLt
  have e1 : (row a n).val / 1024 = a.val := by show (a.val * 1024 + n.val) / 1024 = _; omega
  have e2 : (row a n).val % 1024 = n.val := by show (a.val * 1024 + n.val) % 1024 = _; omega
  simp only [e1, e2]
  rfl

/-- The index of a vector's least distance is its codebook entry's number. -/
theorem pick_apply (z : FVec Ideal S128x1024x32 .f32) (cb : FVec Ideal S512x32 .f32) (a : Fin 128) (n : Fin 1024) :
    argmin (dist (flat z) cb) (ix1 (row a n)) = BitVec.ofNat 32 (pick z cb a n).val := by
  rw [argmin_apply]
  simp only [dist_apply, flat_apply]
  rfl

/-- An index word of the codebook is not negative. -/
theorem slt_zero (k : Fin 512) : IntOp.cmpi .slt (BitVec.ofNat 32 k.val) 0#32 = 0#1 := by
  revert k; decide +kernel

/-- An index word of the codebook is at least zero. -/
theorem sge_zero (k : Fin 512) : IntOp.cmpi .sge (BitVec.ofNat 32 k.val) 0#32 = 1#1 := by
  revert k; decide +kernel

/-- An index word of the codebook is at most 511. -/
theorem sle_last (k : Fin 512) : IntOp.cmpi .sle (BitVec.ofNat 32 k.val) 511#32 = 1#1 := by
  revert k; decide +kernel

/-- Wrapping keeps an index word of the codebook. -/
theorem wrap_apply (idx : IVec S131072 32) (r : Fin 131072) (k : Fin 512) (h : idx (ix1 r) = BitVec.ofNat 32 k.val) :
    wrap idx (ix2 r 0) = BitVec.ofNat 32 k.val := by
  simp only [wrap, pointwise]
  show Scalar.select (IntOp.cmpi .slt (idx (ix1 r)) 0#32) (IntOp.addi (idx (ix1 r)) 512#32) (idx (ix1 r)) = _
  rw [h, slt_zero]
  rfl

/-- An index word of the codebook is in range. -/
theorem inRange_apply (w : IVec S131072x1 32) (r : Fin 131072) (k : Fin 512) (h : w (ix2 r 0) = BitVec.ofNat 32 k.val) :
    inRange w (ix1 r) = 1#1 := by
  simp only [inRange, pointwise]
  rw [Finset.univ_unique, Finset.fold_singleton]
  have e : w (ix2 r (default : Fin 1)) = BitVec.ofNat 32 k.val := h
  rw [e, sge_zero, sle_last]
  rfl

/-- The row lookup at an index word of the codebook is that row. -/
theorem take_apply (cb : FVec Ideal S512x32 .f32) (idx : IVec S131072 32) (r : Fin 131072) (k : Fin 512)
    (h : idx (ix1 r) = BitVec.ofNat 32 k.val) (i : Fin 32) : take cb idx (ix2 r i) = rows cb k i := by
  have hw := wrap_apply idx r k h
  simp only [take, pointwise]
  show Scalar.select (inRange (wrap idx) (ix1 r)) (Host.gather gather_S512x32_S131072x1_S131072x32_1_0_n_n_0_1_132 cb (wrap idx) (ix2 r i)) _ = _
  rw [inRange_apply _ r k hw]
  exact Routing.gather_row _ rfl rfl rfl rfl rfl cb (wrap idx) r i k hw (by norm_num)

/-- `z + (q - z)` at an index. -/
theorem throughQ_apply (zf q : FVec Ideal S131072x32 .f32) (a : Fin 128) (n : Fin 1024) (i : Fin 32) :
    throughQ zf q (ix3 a n i) = zf (ix2 (row a n) i) + (q (ix2 (row a n) i) - zf (ix2 (row a n) i)) := by
  simp only [throughQ, pointwise]
  rfl

/-- Flat words at an index of the shape `128 × 1024`. -/
theorem unflat_apply (x : IVec S131072 32) (a : Fin 128) (n : Fin 1024) :
    shapeCast S128x1024 x shapeCasts_S131072_S128x1024 (ix2 a n) = x (ix1 (row a n)) := by
  simp only [pointwise]
  rfl

/-- A quarter of the mean of the squared differences, summed batch by batch. -/
theorem quarterMean_apply (zf q : FVec Ideal S131072x32 .f32) (j : S_.Idx) :
    quarterMean zf q j = Ideal.ofBits .f32 0x3E800000#32 * Ideal.div
      (∑ a : Fin 128, ∑ n : Fin 1024, ∑ i : Fin 32,
        (zf (ix2 (row a n) i) - q (ix2 (row a n) i)) * (zf (ix2 (row a n) i) - q (ix2 (row a n) i)))
      (Ideal.ofBits .f32 0x4A800000#32) := by
  have e := Fin.sum_mul_add_fin (L := 131072) 128 1024
    (fun r => ∑ i : Fin 32, (zf (ix2 r i) - q (ix2 r i)) * (zf (ix2 r i) - q (ix2 r i))) (by norm_num)
  simp only [quarterMean, pointwise, zero_add]
  exact congrArg (fun x => Ideal.ofBits .f32 0x3E800000#32 * Ideal.div x (Ideal.ofBits .f32 0x4A800000#32)) e.symm

/-- The codebook row the reference takes for a vector. -/
theorem taken_apply (z : FVec Ideal S128x1024x32 .f32) (cb : FVec Ideal S512x32 .f32) (a : Fin 128) (n : Fin 1024) (i : Fin 32) :
    take cb (argmin (dist (flat z) cb)) (ix2 (row a n) i) = rows cb (pick z cb a n) i :=
  take_apply cb _ (row a n) (pick z cb a n) (pick_apply z cb a n) i

/-- Result 0 at an index: `z + (c - z)` at the vector's codebook entry `c`. -/
theorem outQ_apply (z : FVec Ideal S128x1024x32 .f32) (cb : FVec Ideal S512x32 .f32) (a : Fin 128) (n : Fin 1024) (i : Fin 32) :
    outQ z cb (ix3 a n i) = vec z a n i + (rows cb (pick z cb a n) i - vec z a n i) := by
  rw [outQ, throughQ_apply, taken_apply, flat_apply]

/-- Result 2 at an index: the vector's codebook entry's number. -/
theorem outIdx_apply (z : FVec Ideal S128x1024x32 .f32) (cb : FVec Ideal S512x32 .f32) (a : Fin 128) (n : Fin 1024) :
    outIdx z cb (ix2 a n) = BitVec.ofNat 32 (pick z cb a n).val := by
  rw [outIdx, unflat_apply, pick_apply]

/-- Result 1: a quarter of the mean of the squared differences. -/
theorem outLoss_apply (z : FVec Ideal S128x1024x32 .f32) (cb : FVec Ideal S512x32 .f32) (j : S_.Idx) :
    outLoss z cb j = Ideal.ofBits .f32 0x3E800000#32 * Ideal.div
      (∑ a : Fin 128, ∑ n : Fin 1024, ∑ i : Fin 32,
        (vec z a n i - rows cb (pick z cb a n) i) * (vec z a n i - rows cb (pick z cb a n) i))
      (Ideal.ofBits .f32 0x4A800000#32) := by
  rw [outLoss, quarterMean_apply]
  simp only [taken_apply, flat_apply]

end Cert.VQ.Ref

end
-- ==== Proof.Finite.lean ====
module

public import proofs.«01_k».proof.Proof.KRun
public import proofs.«01_k».proof.Proof.RefValue

@[expose] public section

set_option maxRecDepth 16384

noncomputable section

/-! # On finite arrays the two programs agree -/

namespace Cert.VQ

open Idealize.ShloMosaic Idealize.SL.Sem
open Cert.KernelIdeal

/-- Every entry of an array is a real number. -/
def Finite {s : Shape} (x : FVec Ideal s .f32) : Prop := ∀ y, ∃ r : ℝ, x y = (r : EReal)

/-- An extended real whose absolute value is below `⊤` is a real number. -/
theorem real_of_abs_lt (x : EReal) (h : max x (-x) < ⊤) : ∃ r : ℝ, x = (r : EReal) := by
  induction x using EReal.rec with
  | bot => exact absurd (lt_of_le_of_lt (le_max_right _ _) h) (by simp)
  | top => exact absurd (lt_of_le_of_lt (le_max_left _ _) h) (by simp)
  | coe r => exact ⟨r, rfl⟩

/-- The precondition says both arrays are finite. -/
theorem finite_of_pre [Cert.Pre_finite.Facts] (z : FVec Ideal S128x1024x32 .f32) (cb : FVec Ideal S512x32 .f32)
    (h : (Cert.Pre_finite.fn z cb).1 = (fun _ => 1#1) ∧ (Cert.Pre_finite.fn z cb).2 = (fun _ => 1#1)) : Finite z ∧ Finite cb := by
  have word : ∀ p : Prop, ∀ _ : Decidable p, BitVec.ofBool (decide p) = 1#1 → p := fun p _ e => by
    by_contra hn
    rw [decide_eq_false hn] at e
    exact absurd e (by decide)
  constructor <;> intro y
  · have e := congrFun h.1 y
    simp only [Cert.Pre_finite.fn, pointwise, inf_val] at e
    exact real_of_abs_lt _ (word _ _ e)
  · have e := congrFun h.2 y
    simp only [Cert.Pre_finite.fn, pointwise, inf_val] at e
    exact real_of_abs_lt _ (word _ _ e)

/-- The expanded squared distance of finite vectors is the sum of the squared differences. -/
theorem dst_eq (c z : Fin 32 → EReal) (hc : ∀ i, ∃ r : ℝ, c i = (r : EReal)) (hz : ∀ i, ∃ r : ℝ, z i = (r : EReal)) :
    dst c z = ∑ i, (z i - c i) * (z i - c i) := by
  choose cr hcr using hc
  choose zr hzr using hz
  have two : (2 : EReal) = ((2 : ℝ) : EReal) := rfl
  have coe_sum : ∀ f : Fin 32 → ℝ, ∑ i, ((f i : ℝ) : EReal) = ((∑ i, f i : ℝ) : EReal) := fun f =>
    (map_sum (⟨⟨fun x : ℝ => (x : EReal), EReal.coe_zero⟩, EReal.coe_add⟩ : ℝ →+ EReal) f Finset.univ).symm
  unfold dst
  simp only [hcr, hzr, two, ← EReal.coe_mul, ← EReal.coe_sub, coe_sum, ← EReal.coe_add]
  refine congrArg _ ?_
  rw [Finset.mul_sum, ← Finset.sum_add_distrib, ← Finset.sum_sub_distrib]
  exact Finset.sum_congr rfl fun i _ => by ring

/-- `2 ^ (-24)` is a quarter over `2 ^ 22`. -/
theorem scale (x : EReal) : Ideal.ofBits .f32 0x3E800000#32 * Ideal.div x (Ideal.ofBits .f32 0x4A800000#32)
    = Ideal.ofBits .f32 0x33800000#32 * x := by
  have h1 : Ideal.ofBits .f32 0x3E800000#32 = ((1 / 4 : ℝ) : EReal) := by
    simp [Ideal.ofBits, Ideal.ieee]
    rw [← EReal.coe_mul]
    norm_num
  have h2 : Ideal.ofBits .f32 0x4A800000#32 = ((4194304 : ℝ) : EReal) := by
    simp [Ideal.ofBits, Ideal.ieee]
    rw [← EReal.coe_mul]
    norm_num
  have h3 : Ideal.ofBits .f32 0x33800000#32 = ((1 / 16777216 : ℝ) : EReal) := by
    simp [Ideal.ofBits, Ideal.ieee]
    rw [← EReal.coe_mul]
    norm_num
  rw [h1, h2, h3]
  unfold Ideal.div
  rw [if_neg (by norm_num), ← EReal.coe_inv, mul_comm x, ← mul_assoc, ← EReal.coe_mul]
  norm_num

variable (z : FVec Ideal S128x1024x32 .f32) (cb : FVec Ideal S512x32 .f32)

/-- On finite arrays the reference's quantized vectors are the kernel's. -/
theorem outQ_eq (hz : Finite z) (hc : Finite cb) : Ref.outQ z cb = quant z cb := by
  funext y
  refine (congrArg (Ref.outQ z cb) (eq_ix3 y)).trans ((Ref.outQ_apply z cb (y 0) (y 1) (y 2)).trans ?_)
  obtain ⟨r, hr⟩ := hz (ix3 (y 0) (y 1) (y 2))
  obtain ⟨s, hs⟩ := hc (ix2 (pick z cb (y 0) (y 1)) (y 2))
  show vec z _ _ _ + (rows cb _ _ - vec z _ _ _) = rows cb _ _
  have e1 : vec z (y 0) (y 1) (y 2) = (r : EReal) := hr
  have e2 : rows cb (pick z cb (y 0) (y 1)) (y 2) = (s : EReal) := hs
  rw [e1, e2, ← EReal.coe_sub, ← EReal.coe_add, add_sub_cancel]

/-- The reference's indices are the kernel's. -/
theorem outIdx_eq : Ref.outIdx z cb = index z cb := by
  funext y
  exact (congrArg (Ref.outIdx z cb) (eq_ix2 y)).trans (Ref.outIdx_apply z cb (y 0) (y 1))

/-- On finite arrays the reference's loss is the kernel's. -/
theorem outLoss_eq (hz : Finite z) (hc : Finite cb) : Ref.outLoss z cb = lossV z cb := by
  funext j
  rw [Ref.outLoss_apply, scale]
  refine congrArg (Ideal.ofBits .f32 0x33800000#32 * ·) ?_
  refine Finset.sum_congr rfl fun a _ => Finset.sum_congr rfl fun n _ => ?_
  exact (dst_eq _ _ (fun i => hc _) (fun i => hz _)).symm

end Cert.VQ

end
-- ==== Proof.lean ====
/-
  The certificate's claim, assembled: the frames of the kernel and of its idealization, the reference's frame, and the
  equation. Both programs are run to named functions of the two arguments (`KRun`, `RefRun`), which agree when every
  entry of both arguments is a real number (`Finite`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import Idealize.ShloMosaic.Adequacy
public import Idealize.ShloMosaic.Init

@[expose] public section

noncomputable section

namespace Cert.Proof

open Idealize.ShloMosaic Idealize.SL.Sem

/-- The precondition's shape conditions. -/
theorem facts_pre : Cert.Pre_finite.Facts := ⟨by decide, by decide⟩

/-- The reference runs, its arguments end unchanged, and every semaphore counter ends at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩) (Cert.VQ.Ref.run (F := Ideal) m ρ)

/-- From memories agreeing on finite arguments, the kernel and the reference end with equal results. -/
theorem equation : Cert.algebraic_KernelIdeal_ReferenceIdeal_pre_finite (hKernelIdeal := Cert.KernelIdeal.Gen.facts)
    (hReferenceIdeal := Cert.ReferenceIdeal.Gen.facts) (hPre_finite := facts_pre) := fun m g m' g' hpre hargs => by
  have hfin := fun c => @Cert.VQ.finite_of_pre facts_pre _ _ (hpre c)
  refine ⟨fun c => Cert.VQ.quant (Cert.VQ.argZ m c) (Cert.VQ.argC m c), fun c => Cert.VQ.lossV (Cert.VQ.argZ m c) (Cert.VQ.argC m c),
    fun c => Cert.VQ.index (Cert.VQ.argZ m c) (Cert.VQ.argC m c), Cert.VQ.run m g, ?_⟩
  refine (θ_run Cert.ReferenceIdeal.defs _ _).mono (fun r h c => ?_) (Cert.VQ.Ref.run (F := Ideal) m' g')
  obtain ⟨h0, h1, h2, h3⟩ := h c
  rw [(hargs c).1, (hargs c).2] at h0 h1 h2
  exact ⟨h0.trans (Cert.VQ.outQ_eq _ _ (hfin c).1 (hfin c).2), h1.trans (Cert.VQ.outLoss_eq _ _ (hfin c).1 (hfin c).2),
    h2.trans (Cert.VQ.outIdx_eq _ _), h3⟩

/-- The certificate's claim. -/
theorem claim : Cert.Claim :=
  ⟨Cert.Kernel.Gen.facts, Cert.KernelIdeal.Gen.facts, Cert.ReferenceIdeal.Gen.facts, facts_pre,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, equation⟩

end Cert.Proof

end
